-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16384 : Shape := ⟨3, ![2, 1024, 16384]⟩
abbrev S2x1024 : Shape := ⟨2, ![2, 1024]⟩
abbrev S16384x128 : Shape := ⟨2, ![16384, 128]⟩
abbrev S2x1024x8 : Shape := ⟨3, ![2, 1024, 8]⟩
abbrev S2048x16384 : Shape := ⟨2, ![2048, 16384]⟩
abbrev S2x8x1024 : Shape := ⟨3, ![2, 8, 1024]⟩
abbrev S1x128 : Shape := ⟨2, ![1, 128]⟩
abbrev S2048x128 : Shape := ⟨2, ![2048, 128]⟩
abbrev S256x16384 : Shape := ⟨2, ![256, 16384]⟩
abbrev S256x128 : Shape := ⟨2, ![256, 128]⟩
abbrev S128x16384 : Shape := ⟨2, ![128, 16384]⟩
abbrev S128x128 : Shape := ⟨2, ![128, 128]⟩
abbrev S128x256 : Shape := ⟨2, ![128, 256]⟩
abbrev S1024x128 : Shape := ⟨2, ![1024, 128]⟩
abbrev S128x1024 : Shape := ⟨2, ![128, 1024]⟩
abbrev S1x1x128 : Shape := ⟨3, ![1, 1, 128]⟩
abbrev S128 : Shape := ⟨1, ![128]⟩
abbrev S128x1 : Shape := ⟨2, ![128, 1]⟩
abbrev S1x256 : Shape := ⟨2, ![1, 256]⟩
abbrev S256 : Shape := ⟨1, ![256]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x16384, .fp8e4m3⟩
  | .hbm, ⟨1, _⟩ => ⟨S2x1024, .f32⟩
  | .hbm, ⟨2, _⟩ => ⟨S16384x128, .bf16⟩
  | .hbm, ⟨3, _⟩ => ⟨S2x1024x8, .i32⟩
  | .hbm, ⟨4, _⟩ => ⟨S2048x16384, .fp8e4m3⟩
  | .hbm, ⟨5, _⟩ => ⟨S2x8x1024, .i32⟩
  | .hbm, ⟨6, _⟩ => ⟨S2x1024, .f32⟩
  | .hbm, ⟨7, _⟩ => ⟨S2x1024, .f32⟩
  | .hbm, ⟨8, _⟩ => ⟨S1x128, .f32⟩
  | .hbm, ⟨9, _⟩ => ⟨S2x1024, .f32⟩
  | .hbm, ⟨10, _⟩ => ⟨S2048x128, .f32⟩
  | .local _ .vmem, ⟨0, _⟩ => ⟨S2x8x1024, .i32⟩
  | .local _ .vmem, ⟨1, _⟩ => ⟨S2x1024, .f32⟩
  | .local _ .vmem, ⟨2, _⟩ => ⟨S16384x128, .bf16⟩
  | .local _ .vmem, ⟨3, _⟩ => ⟨S256x16384, .fp8e4m3⟩
  | .local _ .vmem, ⟨4, _⟩ => ⟨S256x16384, .fp8e4m3⟩
  | .local _ .vmem, ⟨5, _⟩ => ⟨S2x1024, .f32⟩
  | .local _ .vmem, ⟨6, _⟩ => ⟨S2x1024, .f32⟩
  | .local _ .vmem, ⟨7, _⟩ => ⟨S1x128, .f32⟩
  | .local _ .vmem, ⟨8, _⟩ => ⟨S2x1024, .f32⟩
  | .local _ .vmem, ⟨9, _⟩ => ⟨S256x128, .f32⟩
  | .local _ .vmem, ⟨10, _⟩ => ⟨S256x128, .f32⟩
  | .local _ .vmem, ⟨11, _⟩ => ⟨S128x16384, .bf16⟩
  | .local _ .vmem, ⟨12, _⟩ => ⟨S128x128, .f32⟩
  | .local _ .vmem, ⟨13, _⟩ => ⟨S128x256, .f32⟩
  | _, _ => ⟨S2x1024x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .slt arg0 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg0 c4_i32
  let c0_i32_5 : BitVec 32 := 0#32
  let v16 : BitVec 1 := Scalar.cmpi .ne v15 c0_i32_5
  let v17 : BitVec 1 := Scalar.andi v14 v16
  let v3 : BitVec 32 := Scalar.divsi arg0 c4_i32
  let c1_i32 : BitVec 32 := 1#32
  let v18 : BitVec 32 := Scalar.subi v3 c1_i32
  let v19 : BitVec 32 := Scalar.select v17 v18 v3
  let v35 : Index := Scalar.indexCast v19
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi arg0 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c256_i32 : BitVec 32 := 256#32
  let v30 : BitVec 32 := Scalar.muli v29 c256_i32
  let v36 : Index := Scalar.indexCast v30
  ![v35.toNat, v36.toNat]
def k0_cond2 (i : grid0.Coords) : BitVec 1 :=
  let arg0 : BitVec 32 := BitVec.ofNat 32 (i 0).val
  let c7_i32 : BitVec 32 := 7#32
  let v88 : BitVec 1 := Scalar.cmpi .eq arg0 c7_i32
  let v89 : BitVec 32 := Scalar.extui v88
  let c0_i32_31 : BitVec 32 := 0#32
  let v90 : BitVec 1 := Scalar.cmpi .ne v89 c0_i32_31
  v90

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x16384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x1024x16384 : Shape := ⟨3, ![2, 1024, 16384]⟩
abbrev S2x1024 : Shape := ⟨2, ![2, 1024]⟩
abbrev S16384x128 : Shape := ⟨2, ![16384, 128]⟩
abbrev S2x1024x8 : Shape := ⟨3, ![2, 1024, 8]⟩
abbrev S2048x16384 : Shape := ⟨2, ![2048, 16384]⟩
abbrev S2048x1 : Shape := ⟨2, ![2048, 1]⟩
abbrev S16384x1 : Shape := ⟨2, ![16384, 1]⟩
abbrev S1x128 : Shape := ⟨2, ![1, 128]⟩
abbrev S2048x128 : Shape := ⟨2, ![2048, 128]⟩
abbrev S128 : Shape := ⟨1, ![128]⟩
abbrev S2048 : Shape := ⟨1, ![2048]⟩

abbrev nBuf : Space → Nat
  | .hbm => 12
  | .vmem => 9
  | .smem => 0
  | _ => 0

abbrev bufTy : (tb : Table) → Fin (tcTables nBuf tb) → BufTy
  | .hbm, ⟨0, _⟩ => ⟨S2x1024x16384, .fp8e4m3⟩
  | .hbm, ⟨1, _⟩ => ⟨S2x1024, .f32⟩
  | .hbm, ⟨2, _⟩ => ⟨S16384x128, .bf16⟩
  | .hbm, ⟨3, _⟩ => ⟨S2x1024x8, .i32⟩
  | .hbm, ⟨4, _⟩ => ⟨S2048x16384, .fp8e4m3⟩
  | .hbm, ⟨5, _⟩ => ⟨S2048x1, .f32⟩
  | .hbm, ⟨6, _⟩ => ⟨S16384x1, .i32⟩
  | .hbm, ⟨7, _⟩ => ⟨S2x1024, .f32⟩
  | .hbm, ⟨8, _⟩ => ⟨S2x1024, .f32⟩
  | .hbm, ⟨9, _⟩ => ⟨S1x128, .f32⟩
  | .hbm, ⟨10, _⟩ => ⟨S2x1024, .f32⟩
  | .hbm, ⟨11, _⟩ => ⟨S2048x128, .f32⟩
  | .local _ .vmem, ⟨0, _⟩ => ⟨S16384x1, .i32⟩
  | .local _ .vmem, ⟨1, _⟩ => ⟨S2048x1, .f32⟩
  | .local _ .vmem, ⟨2, _⟩ => ⟨S16384x128, .bf16⟩
  | .local _ .vmem, ⟨3, _⟩ => ⟨S2048x16384, .fp8e4m3⟩
  | .local _ .vmem, ⟨4, _⟩ => ⟨S2x1024, .f32⟩
  | .local _ .vmem, ⟨5, _⟩ => ⟨S2x1024, .f32⟩
  | .local _ .vmem, ⟨6, _⟩ => ⟨S1x128, .f32⟩
  | .local _ .vmem, ⟨7, _⟩ => ⟨S2x1024, .f32⟩
  | .local _ .vmem, ⟨8, _⟩ => ⟨S2048x128, .f32⟩
  | _, _ => ⟨S2x1024x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelFrame.lean ====
module

public import proofs.«01_k».proof.Proof.Gen.Kernel.Skeleton
public import proofs.«01_k».proof.Proof.Gen.Kernel.Frame

@[expose] public section

/-!
The frame of the kernel as compiled: every run ends, the arguments are unchanged and every semaphore is at zero. Nothing is said
of what the buffers hold, so the body is run from any contents to some contents.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

/-- The comparison that guards the work done once, at the first point. -/
def cond1 (i : grid0.Coords) : BitVec 1 := Scalar.cmpi .ne (Scalar.extui (Scalar.cmpi .eq (BitVec.ofNat 32 (i 0).val) 0#32) : BitVec 32) 0#32

set_option maxHeartbeats 4000000 in
/-- A point that is neither the first nor the last. -/
theorem body_mid (c : Dev nD) (E : Set ℕ) (i : grid0.Coords) (h1 : ¬ cond1 i = 1#1) (h2 : ¬ k0_cond2 i = 1#1) (arg1 : Memref sig .tc .vmem S2x8x1024 .i32) (harg1 : arg1.IsWhole) (arg2 : Memref sig .tc .vmem S2x1024 .f32) (harg2 : arg2.IsWhole) (arg3 : Memref sig .tc .vmem S16384x128 .bf16) (harg3 : arg3.IsWhole) (arg4 : Memref sig .tc .vmem S256x16384 .fp8e4m3) (harg4 : arg4.IsWhole) (arg5 : Memref sig .tc .vmem S2x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S2x1024 .f32) (harg8 : arg8.IsWhole) (arg9 : Memref sig .tc .vmem S256x128 .f32) (harg9 : arg9.IsWhole) (arg10 : Memref sig .tc .vmem S128x16384 .bf16) (harg10 : arg10.IsWhole) (arg11 : Memref sig .tc .vmem S128x128 .f32) (harg11 : arg11.IsWhole) (arg12 : Memref sig .tc .vmem S128x256 .f32) (harg12 : arg12.IsWhole) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_router i arg1 harg1 arg2 harg2 arg3 harg3 arg4 harg4 arg5 harg5 arg6 harg6 arg7 harg7 arg8 harg8 arg9 harg9 arg10 harg10 arg11 harg11 arg12 harg12) K := by
  simp only [cc0_router_eq_skeleton]; unfold cc0_router_skel
  simp only [k0_part32_eq_skeleton, k0_part33_eq_skeleton]
  unfold owns
  iintro ⟨⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, Hk⟩
  unfold cond1 at h1
  sl_exec
  sl_step
  iapply Hk
  isplitl [H1]
  · iexists _, _; isplitr
    swap; · iexact H1
    ipureintro; rfl
  isplitl [H2]
  · iexists _, _; isplitr
    swap; · iexact H2
    ipureintro; rfl
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  iexists _, _; isplitr
  swap; · iexact H12
  ipureintro; rfl

set_option maxHeartbeats 4000000 in
/-- The last point. -/
theorem body_last (c : Dev nD) (E : Set ℕ) (i : grid0.Coords) (h1 : ¬ cond1 i = 1#1) (h2 : k0_cond2 i = 1#1) (arg1 : Memref sig .tc .vmem S2x8x1024 .i32) (harg1 : arg1.IsWhole) (arg2 : Memref sig .tc .vmem S2x1024 .f32) (harg2 : arg2.IsWhole) (arg3 : Memref sig .tc .vmem S16384x128 .bf16) (harg3 : arg3.IsWhole) (arg4 : Memref sig .tc .vmem S256x16384 .fp8e4m3) (harg4 : arg4.IsWhole) (arg5 : Memref sig .tc .vmem S2x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S2x1024 .f32) (harg8 : arg8.IsWhole) (arg9 : Memref sig .tc .vmem S256x128 .f32) (harg9 : arg9.IsWhole) (arg10 : Memref sig .tc .vmem S128x16384 .bf16) (harg10 : arg10.IsWhole) (arg11 : Memref sig .tc .vmem S128x128 .f32) (harg11 : arg11.IsWhole) (arg12 : Memref sig .tc .vmem S128x256 .f32) (harg12 : arg12.IsWhole) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_router i arg1 harg1 arg2 harg2 arg3 harg3 arg4 harg4 arg5 harg5 arg6 harg6 arg7 harg7 arg8 harg8 arg9 harg9 arg10 harg10 arg11 harg11 arg12 harg12) K := by
  simp only [cc0_router_eq_skeleton]; unfold cc0_router_skel
  simp only [k0_part32_eq_skeleton, k0_part33_eq_skeleton]
  unfold owns
  iintro ⟨⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, Hk⟩
  unfold cond1 at h1
  sl_exec
  sl_step
  iapply Hk
  isplitl [H1]
  · iexists _, _; isplitr
    swap; · iexact H1
    ipureintro; rfl
  isplitl [H2]
  · iexists _, _; isplitr
    swap; · iexact H2
    ipureintro; rfl
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  iexists _, _; isplitr
  swap; · iexact H12
  ipureintro; rfl

set_option maxHeartbeats 4000000 in
/-- The first point. -/
theorem body_first (c : Dev nD) (E : Set ℕ) (i : grid0.Coords) (h1 : cond1 i = 1#1) (h2 : ¬ k0_cond2 i = 1#1) (arg1 : Memref sig .tc .vmem S2x8x1024 .i32) (harg1 : arg1.IsWhole) (arg2 : Memref sig .tc .vmem S2x1024 .f32) (harg2 : arg2.IsWhole) (arg3 : Memref sig .tc .vmem S16384x128 .bf16) (harg3 : arg3.IsWhole) (arg4 : Memref sig .tc .vmem S256x16384 .fp8e4m3) (harg4 : arg4.IsWhole) (arg5 : Memref sig .tc .vmem S2x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S2x1024 .f32) (harg8 : arg8.IsWhole) (arg9 : Memref sig .tc .vmem S256x128 .f32) (harg9 : arg9.IsWhole) (arg10 : Memref sig .tc .vmem S128x16384 .bf16) (harg10 : arg10.IsWhole) (arg11 : Memref sig .tc .vmem S128x128 .f32) (harg11 : arg11.IsWhole) (arg12 : Memref sig .tc .vmem S128x256 .f32) (harg12 : arg12.IsWhole) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_router i arg1 harg1 arg2 harg2 arg3 harg3 arg4 harg4 arg5 harg5 arg6 harg6 arg7 harg7 arg8 harg8 arg9 harg9 arg10 harg10 arg11 harg11 arg12 harg12) K := by
  simp only [cc0_router_eq_skeleton]; unfold cc0_router_skel
  simp only [k0_part32_eq_skeleton, k0_part33_eq_skeleton, k0_part31_eq_skeleton]
  unfold owns
  iintro ⟨⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, Hk⟩
  unfold cond1 at h1
  sl_exec
  sl_step
  iapply Hk
  isplitl [H1]
  · iexists _, _; isplitr
    swap; · iexact H1
    ipureintro; rfl
  isplitl [H2]
  · iexists _, _; isplitr
    swap; · iexact H2
    ipureintro; rfl
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  iexists _, _; isplitr
  swap; · iexact H12
  ipureintro; rfl

/-- No point is both the first and the last. -/
theorem not_both : ∀ t : Fin cfg0.N, cond1 (grid0.coords t) = 1#1 → ¬ k0_cond2 (grid0.coords t) = 1#1 := by decide

/-- The body at any point. -/
theorem body_any (c : Dev nD) (E : Set ℕ) (t : Fin cfg0.N) (arg1 : Memref sig .tc .vmem S2x8x1024 .i32) (harg1 : arg1.IsWhole) (arg2 : Memref sig .tc .vmem S2x1024 .f32) (harg2 : arg2.IsWhole) (arg3 : Memref sig .tc .vmem S16384x128 .bf16) (harg3 : arg3.IsWhole) (arg4 : Memref sig .tc .vmem S256x16384 .fp8e4m3) (harg4 : arg4.IsWhole) (arg5 : Memref sig .tc .vmem S2x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S2x1024 .f32) (harg8 : arg8.IsWhole) (arg9 : Memref sig .tc .vmem S256x128 .f32) (harg9 : arg9.IsWhole) (arg10 : Memref sig .tc .vmem S128x16384 .bf16) (harg10 : arg10.IsWhole) (arg11 : Memref sig .tc .vmem S128x128 .f32) (harg11 : arg11.IsWhole) (arg12 : Memref sig .tc .vmem S128x256 .f32) (harg12 : arg12.IsWhole) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_router (grid0.coords t) arg1 harg1 arg2 harg2 arg3 harg3 arg4 harg4 arg5 harg5 arg6 harg6 arg7 harg7 arg8 harg8 arg9 harg9 arg10 harg10 arg11 harg11 arg12 harg12) K := by
  by_cases h1 : cond1 (grid0.coords t) = 1#1
  · exact body_first c E _ h1 (not_both t h1) arg1 harg1 arg2 harg2 arg3 harg3 arg4 harg4 arg5 harg5 arg6 harg6 arg7 harg7 arg8 harg8 arg9 harg9 arg10 harg10 arg11 harg11 arg12 harg12 K
  · by_cases h2 : k0_cond2 (grid0.coords t) = 1#1
    · exact body_last c E _ h1 h2 arg1 harg1 arg2 harg2 arg3 harg3 arg4 harg4 arg5 harg5 arg6 harg6 arg7 harg7 arg8 harg8 arg9 harg9 arg10 harg10 arg11 harg11 arg12 harg12 K
    · exact body_mid c E _ h1 h2 arg1 harg1 arg2 harg2 arg3 harg3 arg4 harg4 arg5 harg5 arg6 harg6 arg7 harg7 arg8 harg8 arg9 harg9 arg10 harg10 arg11 harg11 arg12 harg12 K

variable (m : (ℓ : Loc nD τ sig) → Buf (Elt F) ℓ) (ρ : Dev nD → PrngReg)

/-- The body may leave anything in any window's buffer, and the scratch holds anything between points. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by dsimp only [rdat]

/-- The body table's row at point `t` is the body at that point. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body at every point. -/
theorem obligation (c : Dev nD) : (rdat m c).BodyObligation (defs₀ (F := F)) Variants.none () Set.univ := fun t Y hY => by
  rw [bigSep_W0, bigSep_W0, defs₀_row]
  rw [show (rdat m c).owesAt () t.succ = (rdat m c).owesAt () t.castSucc from rfl,
    show (rdat m c).Φ t.succ = Pipeline.ΦA spec0 c from rfl, show (rdat m c).Φ t.castSucc = Pipeline.ΦA spec0 c from rfl]
  unfold bodyAt0 Pipeline.ΦA
  rw [scopedRest0_eq]
  simp only [← owns_whole]
  iintro ⟨⟨⟨⟨%g0, G0⟩, ⟨%g1, G1⟩, ⟨%g2, G2⟩⟩, Hr⟩, Ho, H0, H1, H2, H3, H4, H5, H6, H7, H8⟩
  iapply (body_any c Set.univ t _ _ _ _ _ _ _ _ _ _ _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [G0]; · iexists _; iexact G0
  isplitl [G1]; · iexists _; iexact G1
  isplitl [G2]; · iexists _; iexact G2
  iintro ⟨⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, G0, G1, G2⟩
  isplitl [G0 G1 G2 Hr]
  · isplitl [G0 G1 G2]
    · isplitl [G0]; · iexact G0
      isplitl [G1]; · iexact G1
      iexact G2
    · iexact Hr
  isplitl [Ho]; · iexact Ho
  isplitl [H0]
  · iexists _; isplitr
    swap; · iexact H0
    · ipureintro; trivial
  isplitl [H1]
  · iexists _; isplitr
    swap; · iexact H1
    · ipureintro; trivial
  isplitl [H2]
  · iexists _; isplitr
    swap; · iexact H2
    · ipureintro; trivial
  isplitl [H3]
  · iexists _; isplitr
    swap; · iexact H3
    · ipureintro; trivial
  isplitl [H4]
  · iexists _; isplitr
    swap; · iexact H4
    · ipureintro; trivial
  isplitl [H5]
  · iexists _; isplitr
    swap; · iexact H5
    · ipureintro; trivial
  isplitl [H6]
  · iexists _; isplitr
    swap; · iexact H6
    · ipureintro; trivial
  isplitl [H7]
  · iexists _; isplitr
    swap; · iexact H7
    · ipureintro; trivial
  iexists _; isplitr
  swap; · iexact H8
  · ipureintro; trivial

/-! ## The launch -/

set_option backward.isDefEq.respectTransparency.types false in
set_option maxHeartbeats 800000 in
/-- Every weakly fair execution ends, with each array at what the windows allow, every other buffer as the region found it, and
    every semaphore at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track cfgs (0 : Fin 1) launch0 defs₀ Variants.none (rdat m) m ρ main
    (hbody := obligation m) (hshare := fun c => (rdat m c).share_full fun _ => rfl)
    (howed := fun _ _ => rfl) (V := V m) (hmain := hmain m Variants.none) (hA := A_eq m)
    (hin := fun c => .rfl)
    (hout := fun c => .rfl)
    (Q' := fun r => Pipeline.RDat.FramePost cfg0 (rdat m) (V m) r ∧ r.2.sem = fun _ => 0) (hQ' := fun _ h => h)

variable {m ρ}

/-- The arguments end as launched. -/
theorem args_kept {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have e1 := (h c).1 1
  have e2 := (h c).1 2
  rw [RDat.ArrAt_in (rdat m c) 1 rfl] at e1
  rw [RDat.ArrAt_in (rdat m c) 2 rfl] at e2
  exact ⟨((h c).2 main_arg0 (Pipeline.mem_restRefs_of main_arg0 (by decide) (by decide))).trans (V_main_arg0 m c),
    e1.trans ((A_eq m c 1).trans (V_main_arg1 m c)), e2.trans ((A_eq m c 2).trans (V_main_arg2 m c)),
    ((h c).2 main_arg3 (Pipeline.mem_restRefs_of main_arg3 (by decide) (by decide))).trans (V_main_arg3 m c)⟩

variable (m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept h.1, h.2⟩) (run_main m ρ)

end Cert.Kernel.Hand

end
-- ==== Proof.Reads.lean ====
module

public import Idealize.ShloMosaic.Lib.Pipeline.FrameBody
public import Idealize.ShloMosaic.Lib.Writes

@[expose] public section

/-!
Reading a buffer back after a store of a rectangle, and after a store of the whole buffer.
-/

namespace Cert.Hand

open Idealize.ShloMosaic

variable {sig : RefSig} {κ : Kind} {sp : Space} {s : Shape} {e : EltTy} {Val : EltTy → Type}

/-- A rectangle of unit stride, at offset zero and as large as the shape, places every index at itself. -/
theorem emb_full (off : Fin s.rank → Nat) (h0 : ∀ a, off a = 0) (inb : ∀ a, off a + s.size a ≤ s.size a) (x : s.Idx) :
    (Rect.unit (s := s) off s.size inb).emb x = x := by
  funext a
  apply Fin.ext
  show off a + 1 * (x a).val = (x a).val
  rw [h0 a, Nat.zero_add, Nat.one_mul]

/-- Reading the whole of an array gives the array. -/
theorem ld_full (X : s.Idx → Val e) (off : Fin s.rank → Nat) (h0 : ∀ a, off a = 0) (inb : ∀ a, off a + s.size a ≤ s.size a) :
    View.ld X (Rect.unit (s := s) off s.size inb) = X := by
  funext x
  exact congrArg X (emb_full off h0 inb x)

/-- After a store of a rectangle the buffer reads as before, with the rectangle overwritten. -/
theorem read_put (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ := r.exists_idx_of_mem hy
    exact (View.read_writes_cons_emb v f r w [] x).trans (Rect.overlay_emb r _ w x).symm
  · rw [Rect.overlay_of_not_mem _ _ _ hy, View.read_writes_cons_miss v f _ _ y hy]
    rfl

/-- After a last store of the whole buffer it reads as what was stored. -/
theorem read_full (v : View sig κ sp s e) (f : v.ty.Contents Val) (off : Fin s.rank → Nat) (h0 : ∀ a, off a = 0)
    (inb : ∀ a, off a + s.size a ≤ s.size a) (w : s.Idx → Val e) (L : List (View.Piece Val s e)) :
    v.read Val (v.writes Val f (⟨Rect.unit (s := s) off s.size inb, w⟩ :: L)) = w := by
  funext y
  exact View.read_writes_cons_hit v f (Rect.unit (s := s) off s.size inb) w L y y (emb_full off h0 inb y)

end Cert.Hand

end
-- ==== Proof.Point.lean ====
module

public import proofs.«01_k».proof.Proof.Gen.KernelIdeal.Skeleton
public import proofs.«01_k».proof.Proof.Gen.KernelIdeal.Frame
public import proofs.«01_k».proof.Proof.Reads
public import Idealize.ShloMosaic.Lib.PointwiseCore

@[expose] public section

/-!
What one grid point of the kernel computes, written over the payloads of its body: the rows and blocks it stores, the histogram
and the transposed weights of the first point.
-/

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The 256 consecutive places of one row of a [2,1024] array that belong to grid point `i`. -/
abbrev rowRect (i : grid0.Coords) : Rect S2x1024 := Rect.unit (s := S2x1024) (k0_off1 i) S1x256.size (k0_off1_inb i)

/-- A [2,1024] array with the places of point `i` overwritten by `w`. -/
def put (i : grid0.Coords) (y : Vec F S2x1024 .f32) (w : Vec F S1x256 .f32) : Vec F S2x1024 .f32 := (rowRect i).overlay y w

/-- The places of point `i`, read. -/
def blockRow (i : grid0.Coords) (x : Vec F S2x1024 .f32) : Vec F S1x256 .f32 := View.ld x (rowRect i)

/-- The unscaled logits of one block, an expert per row and a token per column: the transposed weights against the block of tokens. -/
def dotT (s0 : Vec F S128x16384 .bf16) (x3 : Vec F S256x16384 .fp8e4m3) : FVec F S128x256 .f32 :=
  k0_pay73 (View.ld s0 (Rect.unit (s := S128x16384) ![0, 0] S128x16384.size inb_S128x16384_S128x16384_0_0))
    (View.ld x3 (Rect.unit (s := S256x16384) ![0, 0] S256x16384.size inb_S256x16384_S256x16384_0_0))

/-- The auxiliary loss of the block's tokens, from the transposed weights, the frequencies, the scales and the tokens. -/
def auxRow (s0 : Vec F S128x16384 .bf16) (s1 : Vec F S128x128 .f32) (x1 : Vec F S1x256 .f32) (x3 : Vec F S256x16384 .fp8e4m3) : Vec F S1x256 .f32 :=
  k0_pay82 (dotT s0 x3) x1 (View.ld s1 (Rect.unit (s := S128x128) ![0, 0] S128x128.size inb_S128x128_S128x128_0_0))

/-- The z loss of the block's tokens. -/
def ztRow (s0 : Vec F S128x16384 .bf16) (x1 : Vec F S1x256 .f32) (x3 : Vec F S256x16384 .fp8e4m3) : Vec F S1x256 .f32 := k0_pay83 (dotT s0 x3) x1

/-- The logarithm of the sum of exponentials of the block's tokens. -/
def lseRow (s0 : Vec F S128x16384 .bf16) (x1 : Vec F S1x256 .f32) (x3 : Vec F S256x16384 .fp8e4m3) : Vec F S1x256 .f32 := k0_pay78 (dotT s0 x3) x1

/-- The gradient of the block's logits, a token per row. -/
def dlBlock (s0 : Vec F S128x16384 .bf16) (s1 : Vec F S128x128 .f32) (x1 : Vec F S1x256 .f32) (x3 : Vec F S256x16384 .fp8e4m3) : Vec F S256x128 .f32 :=
  k0_pay84 (dotT s0 x3) x1 (View.ld s1 (Rect.unit (s := S128x128) ![0, 0] S128x128.size inb_S128x128_S128x128_0_0))

/-- The running sum of probabilities after the block. -/
def psumNext (s0 : Vec F S128x16384 .bf16) (x1 : Vec F S1x256 .f32) (x3 : Vec F S256x16384 .fp8e4m3) (s2 : Vec F S128x256 .f32) : Vec F S128x256 .f32 :=
  k0_pay1 (k0_pay79 (dotT s0 x3) x1) (View.ld s2 (Rect.unit (s := S128x256) ![0, 0] S128x256.size inb_S128x256_S128x256_0_0))

/-- The mean probabilities, from the running sum after the last block. -/
def meanP (s2 : Vec F S128x256 .f32) : Vec F S1x128 .f32 :=
  k0_pay2 (View.ld s2 (Rect.unit (s := S128x256) ![0, 0] S128x256.size inb_S128x256_S128x256_0_0))

/-- The comparison that guards the work done once, at the first point. -/
def cond1 (i : grid0.Coords) : BitVec 1 := Scalar.cmpi .ne (Scalar.extui (Scalar.cmpi .eq (BitVec.ofNat 32 (i 0).val) 0#32) : BitVec 32) 0#32

/-- The token experts' offsets, in the order in which the histogram visits them: 128 ids at a time. -/
def histOff (n : ℕ) : Fin 3 → ℕ := ![n / 64 % 2, n / 8 % 8, n % 8 * 128]

theorem histOff_inb (n : ℕ) : ∀ a, histOff n a + S1x1x128.size a ≤ S2x8x1024.size a := by
  intro a
  match a with
  | ⟨0, _⟩ => show n / 64 % 2 + 1 ≤ 2; omega
  | ⟨1, _⟩ => show n / 8 % 8 + 1 ≤ 8; omega
  | ⟨2, _⟩ => show n % 8 * 128 + 128 ≤ 1024; omega

/-- One visit of the histogram: at expert `e` and lane `l`, one if the lane's id is `e` and zero otherwise. -/
def hit (r : Vec F S1x1x128 .i32) : FVec F S128x128 .f32 :=
  select (cmpi .eq (broadcastTo S128x128 (shapeCast S1x128 r shapeCasts_S1x1x128_S1x128) broadcasts_S1x128_S128x128)
    (iota .tc S128x128 32 [0] iota_S128x128_d0_w32))
    (broadcast S128x128 (Scalar.ofBits .f32 0x3F800000#32 : F .f32)) (broadcast S128x128 (Scalar.ofBits .f32 0x00000000#32 : F .f32))

/-- The histogram after `n` visits, its lanes still apart. -/
def hist (x0 : Vec F S2x8x1024 .i32) : ℕ → FVec F S128x128 .f32
  | 0 => broadcast S128x128 (Scalar.ofBits .f32 0x00000000#32 : F .f32)
  | n + 1 => addf (hist x0 n) (hit (View.ld x0 (Rect.unit (s := S2x8x1024) (histOff n) S1x1x128.size (histOff_inb n))))

/-- The histogram: its lanes added up. -/
def histSum (x0 : Vec F S2x8x1024 .i32) : FVec F S128x1 .f32 :=
  shapeCast S128x1 (multiReduction .add [1] S128 (hist x0 128) 0x00000000#32 reduces_S128x128_S128 (.inl rfl) rfl) shapeCasts_S128_S128x1

/-- The frequencies, the same in every column. -/
def freq (x0 : Vec F S2x8x1024 .i32) : Vec F S128x128 .f32 := k0_pay71 (histSum x0)

/-- The transposed weights. -/
def wt (x2 : Vec F S16384x128 .bf16) : Vec F S128x16384 .bf16 :=
  fun j => x2 (ix2 (j 1) (j 0))

theorem chunk_inb (k : ℕ) : ∀ a, (![k % 16 * 1024, 0] : Fin 2 → ℕ) a + S1024x128.size a ≤ S16384x128.size a := by
  intro a
  match a with
  | ⟨0, _⟩ => show k % 16 * 1024 + 1024 ≤ 16384; omega
  | ⟨1, _⟩ => show 0 + 128 ≤ 128; omega

theorem chunkT_inb (k : ℕ) : ∀ a, (![0, k % 16 * 1024] : Fin 2 → ℕ) a + S128x1024.size a ≤ S128x16384.size a := by
  intro a
  match a with
  | ⟨0, _⟩ => show 0 + 128 ≤ 128; omega
  | ⟨1, _⟩ => show k % 16 * 1024 + 1024 ≤ 16384; omega

/-- The transposed chunk `k` of the weights and the place where it is stored. -/
def chunk (x2 : Vec F S16384x128 .bf16) (k : ℕ) : View.Piece (Elt F) S128x16384 .bf16 :=
  ⟨Rect.unit (s := S128x16384) ![0, k % 16 * 1024] S128x1024.size (chunkT_inb k),
    k0_pay3 (View.ld x2 (Rect.unit (s := S16384x128) ![k % 16 * 1024, 0] S1024x128.size (chunk_inb k)))⟩

/-- The sixteen chunks, the last one stored first. -/
def chunks (x2 : Vec F S16384x128 .bf16) : List (View.Piece (Elt F) S128x16384 .bf16) :=
  [15, 14, 13, 12, 11, 10, 9, 8, 7, 6, 5, 4, 3, 2, 1, 0].map (chunk x2)

/-- A transposed chunk, at an expert and a position, is the weight at that position and expert. -/
theorem chunk_apply (x2 : Vec F S16384x128 .bf16) (k : ℕ) (x : S128x1024.Idx) :
    k0_pay3 (View.ld x2 (Rect.unit (s := S16384x128) ![k % 16 * 1024, 0] S1024x128.size (chunk_inb k))) x
      = wt x2 ((Rect.unit (s := S128x16384) ![0, k % 16 * 1024] S128x1024.size (chunkT_inb k)).idx x) := by
  idx_vars x
  pointwise [k0_pay3, wt]

/-- A stored chunk of the transposed weights is the part of the transposed weights that it overwrites. -/
theorem chunk_eq (x2 : Vec F S16384x128 .bf16) (k : ℕ) (x : (chunk x2 k).1.shape.Idx) : (chunk x2 k).2 x = wt x2 ((chunk x2 k).1.emb x) :=
  chunk_apply x2 k x

/-- The chunks cover the transposed weights. -/
theorem chunks_cover (x2 : Vec F S16384x128 .bf16) (y : S128x16384.Idx) : ∃ p ∈ chunks x2, y ∈ p.1.set := by
  have hy : (y 1).val < 16384 := (y 1).isLt
  have hk : (y 1).val / 1024 ∈ [15, 14, 13, 12, 11, 10, 9, 8, 7, 6, 5, 4, 3, 2, 1, 0] := by
    have h : (y 1).val / 1024 < 16 := by omega
    generalize (y 1).val / 1024 = k at h
    simp only [List.mem_cons, List.not_mem_nil, or_false]
    omega
  refine ⟨chunk x2 ((y 1).val / 1024), List.mem_map_of_mem hk, ?_⟩
  unfold chunk
  rw [Rect.mem_set_unit]
  intro a
  match a with
  | ⟨0, _⟩ => have h0 : (y 0).val < 128 := (y 0).isLt; show 0 ≤ (y 0).val ∧ (y 0).val < 0 + 128; omega
  | ⟨1, _⟩ => show (y 1).val / 1024 % 16 * 1024 ≤ (y 1).val ∧ (y 1).val < (y 1).val / 1024 % 16 * 1024 + 1024; omega

/-- A buffer that the sixteen chunks were stored into holds the transposed weights. -/
theorem read_chunks {sig' : RefSig} {κ : Kind} {sp : Space} (v : View sig' κ sp S128x16384 .bf16) (f : v.ty.Contents (Elt F)) (x2 : Vec F S16384x128 .bf16) :
    v.read (Elt F) (v.writes (Elt F) f (chunks x2)) = wt x2 := by
  funext y
  refine View.read_writes_apply_of_pieces v f (wt x2) _ ?_ y (chunks_cover x2 y)
  intro p hp x
  obtain ⟨k, -, rfl⟩ := List.mem_map.1 hp
  exact chunk_eq x2 k x

end Cert.KernelIdeal.Hand

end
-- ==== Proof.Body.lean ====
module

public import proofs.«01_k».proof.Proof.Gen.KernelIdeal.Skeleton
public import proofs.«01_k».proof.Proof.Gen.KernelIdeal.Frame
public import proofs.«01_k».proof.Proof.Point

@[expose] public section

/-!
What one grid point of the kernel's body does to the buffers it is handed.
-/

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- A point that is neither the first nor the last: the rows of the point are overwritten in the three [2,1024] results, the block
    of gradients is filled, the running sum grows, and everything else stays. -/
theorem body_mid (c : Dev nD) (E : Set ℕ) (i : grid0.Coords) (h1 : ¬ cond1 i = 1#1) (h2 : ¬ k0_cond2 i = 1#1) (arg1 : Memref sig .tc .vmem S2x8x1024 .i32) (harg1 : arg1.IsWhole) (arg2 : Memref sig .tc .vmem S2x1024 .f32) (harg2 : arg2.IsWhole) (arg3 : Memref sig .tc .vmem S16384x128 .bf16) (harg3 : arg3.IsWhole) (arg4 : Memref sig .tc .vmem S256x16384 .fp8e4m3) (harg4 : arg4.IsWhole) (arg5 : Memref sig .tc .vmem S2x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S2x1024 .f32) (harg8 : arg8.IsWhole) (arg9 : Memref sig .tc .vmem S256x128 .f32) (harg9 : arg9.IsWhole) (arg10 : Memref sig .tc .vmem S128x16384 .bf16) (harg10 : arg10.IsWhole) (arg11 : Memref sig .tc .vmem S128x128 .f32) (harg11 : arg11.IsWhole) (arg12 : Memref sig .tc .vmem S128x256 .f32) (harg12 : arg12.IsWhole)
    (x0 : Vec F S2x8x1024 .i32) (x1 : Vec F S2x1024 .f32) (x2 : Vec F S16384x128 .bf16) (x3 : Vec F S256x16384 .fp8e4m3) (y4 : Vec F S2x1024 .f32) (y5 : Vec F S2x1024 .f32) (y6 : Vec F S1x128 .f32) (y7 : Vec F S2x1024 .f32) (y8 : Vec F S256x128 .f32) (s0 : Vec F S128x16384 .bf16) (s1 : Vec F S128x128 .f32) (s2 : Vec F S128x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare y7 ∗ owns (c : Thread nD τ) arg9 fullShare y8 ∗ owns (c : Thread nD τ) arg10 fullShare s0 ∗ owns (c : Thread nD τ) arg11 fullShare s1 ∗ owns (c : Thread nD τ) arg12 fullShare s2 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (put i y4 (auxRow s0 s1 (blockRow i x1) x3)) ∗ owns (c : Thread nD τ) arg6 fullShare (put i y5 (ztRow s0 (blockRow i x1) x3)) ∗ owns (c : Thread nD τ) arg7 fullShare y6 ∗ owns (c : Thread nD τ) arg8 fullShare (put i y7 (lseRow s0 (blockRow i x1) x3)) ∗ owns (c : Thread nD τ) arg9 fullShare (dlBlock s0 s1 (blockRow i x1) x3) ∗ owns (c : Thread nD τ) arg10 fullShare s0 ∗ owns (c : Thread nD τ) arg11 fullShare s1 ∗ owns (c : Thread nD τ) arg12 fullShare (psumNext s0 (blockRow i x1) x3 s2)) -∗ K ⟨⟩))
      ⊢ wp frame (wpE (defs₀ (F := F)) Variants.none c none) E (cc0_router i arg1 harg1 arg2 harg2 arg3 harg3 arg4 harg4 arg5 harg5 arg6 harg6 arg7 harg7 arg8 harg8 arg9 harg9 arg10 harg10 arg11 harg11 arg12 harg12) K := by
  simp only [cc0_router_eq_skeleton]; unfold cc0_router_skel
  simp only [k0_part32_eq_skeleton, k0_part33_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf1 hf2 hf3 hf4 hf5 hf6 hf7 hf8 hf9 hf10 hf11 hf12
  unfold cond1 at h1
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact read_put _ _ _ _
  isplitl [H6]
  · iexists _; isplitr
    swap; · iexact H6
    ipureintro
    exact read_put _ _ _ _
  isplitl [H7]
  · iexists f7; isplitr; · ipureintro; rfl
    iexact H7
  isplitl [H8]
  · iexists _; isplitr
    swap; · iexact H8
    ipureintro
    exact read_put _ _ _ _
  isplitl [H9]
  · iexists _; isplitr
    swap; · iexact H9
    ipureintro
    refine read_full _ _ _ ?_ _ _ _; decide
  isplitl [H10]
  · iexists f10; isplitr; · ipureintro; rfl
    iexact H10
  isplitl [H11]
  · iexists f11; isplitr; · ipureintro; rfl
    iexact H11
  · iexists _; isplitr
    swap; · iexact H12
    ipureintro
    refine read_full _ _ _ ?_ _ _ _; decide

set_option maxHeartbeats 4000000 in
/-- The last point: as a middle point, and the mean probabilities are stored. -/
theorem body_last (c : Dev nD) (E : Set ℕ) (i : grid0.Coords) (h1 : ¬ cond1 i = 1#1) (h2 : k0_cond2 i = 1#1) (arg1 : Memref sig .tc .vmem S2x8x1024 .i32) (harg1 : arg1.IsWhole) (arg2 : Memref sig .tc .vmem S2x1024 .f32) (harg2 : arg2.IsWhole) (arg3 : Memref sig .tc .vmem S16384x128 .bf16) (harg3 : arg3.IsWhole) (arg4 : Memref sig .tc .vmem S256x16384 .fp8e4m3) (harg4 : arg4.IsWhole) (arg5 : Memref sig .tc .vmem S2x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S2x1024 .f32) (harg8 : arg8.IsWhole) (arg9 : Memref sig .tc .vmem S256x128 .f32) (harg9 : arg9.IsWhole) (arg10 : Memref sig .tc .vmem S128x16384 .bf16) (harg10 : arg10.IsWhole) (arg11 : Memref sig .tc .vmem S128x128 .f32) (harg11 : arg11.IsWhole) (arg12 : Memref sig .tc .vmem S128x256 .f32) (harg12 : arg12.IsWhole)
    (x0 : Vec F S2x8x1024 .i32) (x1 : Vec F S2x1024 .f32) (x2 : Vec F S16384x128 .bf16) (x3 : Vec F S256x16384 .fp8e4m3) (y4 : Vec F S2x1024 .f32) (y5 : Vec F S2x1024 .f32) (y6 : Vec F S1x128 .f32) (y7 : Vec F S2x1024 .f32) (y8 : Vec F S256x128 .f32) (s0 : Vec F S128x16384 .bf16) (s1 : Vec F S128x128 .f32) (s2 : Vec F S128x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare y7 ∗ owns (c : Thread nD τ) arg9 fullShare y8 ∗ owns (c : Thread nD τ) arg10 fullShare s0 ∗ owns (c : Thread nD τ) arg11 fullShare s1 ∗ owns (c : Thread nD τ) arg12 fullShare s2 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (put i y4 (auxRow s0 s1 (blockRow i x1) x3)) ∗ owns (c : Thread nD τ) arg6 fullShare (put i y5 (ztRow s0 (blockRow i x1) x3)) ∗ owns (c : Thread nD τ) arg7 fullShare (meanP (psumNext s0 (blockRow i x1) x3 s2)) ∗ owns (c : Thread nD τ) arg8 fullShare (put i y7 (lseRow s0 (blockRow i x1) x3)) ∗ owns (c : Thread nD τ) arg9 fullShare (dlBlock s0 s1 (blockRow i x1) x3) ∗ owns (c : Thread nD τ) arg10 fullShare s0 ∗ owns (c : Thread nD τ) arg11 fullShare s1 ∗ owns (c : Thread nD τ) arg12 fullShare (psumNext s0 (blockRow i x1) x3 s2)) -∗ K ⟨⟩))
      ⊢ wp frame (wpE (defs₀ (F := F)) Variants.none c none) E (cc0_router i arg1 harg1 arg2 harg2 arg3 harg3 arg4 harg4 arg5 harg5 arg6 harg6 arg7 harg7 arg8 harg8 arg9 harg9 arg10 harg10 arg11 harg11 arg12 harg12) K := by
  simp only [cc0_router_eq_skeleton]; unfold cc0_router_skel
  simp only [k0_part32_eq_skeleton, k0_part33_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf1 hf2 hf3 hf4 hf5 hf6 hf7 hf8 hf9 hf10 hf11 hf12
  unfold cond1 at h1
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact read_put _ _ _ _
  isplitl [H6]
  · iexists _; isplitr
    swap; · iexact H6
    ipureintro
    exact read_put _ _ _ _
  isplitl [H7]
  · iexists _; isplitr
    swap; · iexact H7
    ipureintro
    refine (read_full (s := S1x128) _ _ _ ?_ _ _ _).trans (congrArg k0_pay2 ?_)
    · decide
    · refine (View.readCov_cons_toLoadRect _ _ _ _).trans (Eq.trans ?_ (ld_full (s := S128x256) _ _ ?_ _).symm)
      · rfl
      · decide
  isplitl [H8]
  · iexists _; isplitr
    swap; · iexact H8
    ipureintro
    exact read_put _ _ _ _
  isplitl [H9]
  · iexists _; isplitr
    swap; · iexact H9
    ipureintro
    refine read_full _ _ _ ?_ _ _ _; decide
  isplitl [H10]
  · iexists f10; isplitr; · ipureintro; rfl
    iexact H10
  isplitl [H11]
  · iexists f11; isplitr; · ipureintro; rfl
    iexact H11
  · iexists _; isplitr
    swap; · iexact H12
    ipureintro
    refine read_full _ _ _ ?_ _ _ _; decide

set_option maxHeartbeats 4000000 in
/-- The first point: the transposed weights, the frequencies and a zero running sum are stored first, whatever the scratch held. -/
theorem body_first (c : Dev nD) (E : Set ℕ) (i : grid0.Coords) (h1 : cond1 i = 1#1) (h2 : ¬ k0_cond2 i = 1#1) (arg1 : Memref sig .tc .vmem S2x8x1024 .i32) (harg1 : arg1.IsWhole) (arg2 : Memref sig .tc .vmem S2x1024 .f32) (harg2 : arg2.IsWhole) (arg3 : Memref sig .tc .vmem S16384x128 .bf16) (harg3 : arg3.IsWhole) (arg4 : Memref sig .tc .vmem S256x16384 .fp8e4m3) (harg4 : arg4.IsWhole) (arg5 : Memref sig .tc .vmem S2x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S2x1024 .f32) (harg8 : arg8.IsWhole) (arg9 : Memref sig .tc .vmem S256x128 .f32) (harg9 : arg9.IsWhole) (arg10 : Memref sig .tc .vmem S128x16384 .bf16) (harg10 : arg10.IsWhole) (arg11 : Memref sig .tc .vmem S128x128 .f32) (harg11 : arg11.IsWhole) (arg12 : Memref sig .tc .vmem S128x256 .f32) (harg12 : arg12.IsWhole)
    (x0 : Vec F S2x8x1024 .i32) (x1 : Vec F S2x1024 .f32) (x2 : Vec F S16384x128 .bf16) (x3 : Vec F S256x16384 .fp8e4m3) (y4 : Vec F S2x1024 .f32) (y5 : Vec F S2x1024 .f32) (y6 : Vec F S1x128 .f32) (y7 : Vec F S2x1024 .f32) (y8 : Vec F S256x128 .f32) (s0 : Vec F S128x16384 .bf16) (s1 : Vec F S128x128 .f32) (s2 : Vec F S128x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare y7 ∗ owns (c : Thread nD τ) arg9 fullShare y8 ∗ owns (c : Thread nD τ) arg10 fullShare s0 ∗ owns (c : Thread nD τ) arg11 fullShare s1 ∗ owns (c : Thread nD τ) arg12 fullShare s2 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (put i y4 (auxRow (wt x2) (freq x0) (blockRow i x1) x3)) ∗ owns (c : Thread nD τ) arg6 fullShare (put i y5 (ztRow (wt x2) (blockRow i x1) x3)) ∗ owns (c : Thread nD τ) arg7 fullShare y6 ∗ owns (c : Thread nD τ) arg8 fullShare (put i y7 (lseRow (wt x2) (blockRow i x1) x3)) ∗ owns (c : Thread nD τ) arg9 fullShare (dlBlock (wt x2) (freq x0) (blockRow i x1) x3) ∗ owns (c : Thread nD τ) arg10 fullShare (wt x2) ∗ owns (c : Thread nD τ) arg11 fullShare (freq x0) ∗ owns (c : Thread nD τ) arg12 fullShare (psumNext (wt x2) (blockRow i x1) x3 (k0_pay72 (F := F)))) -∗ K ⟨⟩))
      ⊢ wp frame (wpE (defs₀ (F := F)) Variants.none c none) E (cc0_router i arg1 harg1 arg2 harg2 arg3 harg3 arg4 harg4 arg5 harg5 arg6 harg6 arg7 harg7 arg8 harg8 arg9 harg9 arg10 harg10 arg11 harg11 arg12 harg12) K := by
  simp only [cc0_router_eq_skeleton]; unfold cc0_router_skel
  simp only [k0_part32_eq_skeleton, k0_part33_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf1 hf2 hf3 hf4 hf5 hf6 hf7 hf8 hf9 hf10 hf11 hf12
  unfold cond1 at h1
  simp only [k0_part31_eq_skeleton]
  sl_exec
  have e11 : body_first.sl.H11_1 c arg1 f1 = [⟨Rect.unit (s := S128x128) ![0, 0] S128x128.size inb_S128x128_S128x128_0_0, freq (arg1.view.read (Elt F) f1)⟩] := rfl
  have e53 : body_first.sl.v53 c arg1 arg11 f1 = View.ld (freq (arg1.view.read (Elt F) f1)) (Rect.unit (s := S128x128) ![0, 0] S128x128.size inb_S128x128_S128x128_0_0) := by
    unfold body_first.sl.v53
    rw [e11]
    refine (View.readCov_cons_toLoadRect _ _ _ _).trans (ld_full (s := S128x128) _ _ ?_ _).symm
    decide
  have e83 : body_first.sl.v83 arg12 = View.ld (k0_pay72 (F := F)) (Rect.unit (s := S128x256) ![0, 0] S128x256.size inb_S128x256_S128x256_0_0) := by
    unfold body_first.sl.v83
    refine (View.readCov_cons_toLoadRect _ _ _ _).trans (Eq.trans ?_ (ld_full (s := S128x256) _ _ ?_ _).symm)
    · rfl
    · decide
  have e10 : body_first.sl.H10_16 c arg3 f3 = chunks (arg3.view.read (Elt F) f3) := rfl
  have e31 : body_first.sl.v31 c arg3 arg10 f3 = View.ld (wt (arg3.view.read (Elt F) f3)) (Rect.unit (s := S128x16384) ![0, 0] S128x16384.size inb_S128x16384_S128x16384_0_0) := by
    unfold body_first.sl.v31
    rw [e10]
    funext j
    exact congrFun (read_chunks arg10.view arg10.view.junk (arg3.view.read (Elt F) f3)) _
  have e49 : body_first.sl.r_49 c arg3 arg4 arg10 f3 f4 = dotT (wt (arg3.view.read (Elt F) f3)) (arg4.view.read (Elt F) f4) := by
    unfold body_first.sl.r_49
    rw [e31]
    rfl
  have e50 : body_first.sl.r_50 c i arg2 arg3 arg4 arg10 f2 f3 f4 = k0_pay79 (dotT (wt (arg3.view.read (Elt F) f3)) (arg4.view.read (Elt F) f4)) (blockRow i (arg2.view.read (Elt F) f2)) := by
    unfold body_first.sl.r_50
    rw [e49]
    rfl
  have e51 : body_first.sl.r_51 c i arg1 arg2 arg3 arg4 arg10 arg11 f1 f2 f3 f4 = dlBlock (wt (arg3.view.read (Elt F) f3)) (freq (arg1.view.read (Elt F) f1)) (blockRow i (arg2.view.read (Elt F) f2)) (arg4.view.read (Elt F) f4) := by
    unfold body_first.sl.r_51
    rw [e49, e53]
    rfl
  rw [e49, e53, e51, e50, e83, e10, e11]
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact read_put _ _ _ _
  isplitl [H6]
  · iexists _; isplitr
    swap; · iexact H6
    ipureintro
    exact read_put _ _ _ _
  isplitl [H7]
  · iexists f7; isplitr; · ipureintro; rfl
    iexact H7
  isplitl [H8]
  · iexists _; isplitr
    swap; · iexact H8
    ipureintro
    exact read_put _ _ _ _
  isplitl [H9]
  · iexists _; isplitr
    swap; · iexact H9
    ipureintro
    refine read_full _ _ _ ?_ _ _ _; decide
  isplitl [H10]
  · iexists _; isplitr
    swap; · iexact H10
    ipureintro
    exact read_chunks _ _ _
  isplitl [H11]
  · iexists _; isplitr
    swap; · iexact H11
    ipureintro
    refine read_full _ _ _ ?_ _ _ _; decide
  · iexists _; isplitr
    swap; · iexact H12
    ipureintro
    refine read_full _ _ _ ?_ _ _ _; decide

end Cert.KernelIdeal.Hand

end
-- ==== Proof.Run.lean ====
module

public import proofs.«01_k».proof.Proof.Gen.KernelIdeal.Skeleton
public import proofs.«01_k».proof.Proof.Gen.KernelIdeal.Frame
public import proofs.«01_k».proof.Proof.Body

@[expose] public section

/-!
The run of the whole kernel: what each window's buffer may hold at each grid point, what the scratch holds between points, the
body at every point, and the launch.
-/

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values -/

/-- The `n`-th grid point. -/
def pt (n : ℕ) : Fin cfg0.N := ⟨n % 8, by rw [show cfg0.N = 8 from N_0]; omega⟩

/-- The transposed weights, as the first point stores them. -/
def wtAt (c : Dev nD) : Vec F S128x16384 .bf16 := wt (iblk m c 2 (pt 0))

/-- The frequencies, as the first point stores them. -/
def freqAt (c : Dev nD) : Vec F S128x128 .f32 := freq (iblk m c 0 (pt 0))

/-- The scales of point `t`'s tokens. -/
def scaleAt (c : Dev nD) (t : Fin cfg0.N) : Vec F S1x256 .f32 := blockRow (grid0.coords t) (iblk m c 1 t)

/-- The running sum of probabilities after the first `n` points. -/
def psumAt (c : Dev nD) : ℕ → Vec F S128x256 .f32
  | 0 => k0_pay72
  | n + 1 => psumNext (wtAt m c) (scaleAt m c (pt n)) (iblk m c 3 (pt n)) (psumAt c n)

/-- The rows that point `t` stores into the three [2,1024] results, and the block of gradients. -/
def auxAt (c : Dev nD) (t : Fin cfg0.N) : Vec F S1x256 .f32 := auxRow (wtAt m c) (freqAt m c) (scaleAt m c t) (iblk m c 3 t)
def ztAt (c : Dev nD) (t : Fin cfg0.N) : Vec F S1x256 .f32 := ztRow (wtAt m c) (scaleAt m c t) (iblk m c 3 t)
def lseAt (c : Dev nD) (t : Fin cfg0.N) : Vec F S1x256 .f32 := lseRow (wtAt m c) (scaleAt m c t) (iblk m c 3 t)
def dlAt (c : Dev nD) (t : Fin cfg0.N) : Vec F S256x128 .f32 := dlBlock (wtAt m c) (freqAt m c) (scaleAt m c t) (iblk m c 3 t)

/-- The scratch between points: anything before the first point; afterwards the transposed weights, the frequencies and the
    running sum. -/
def inv (c : Dev nD) (n : ℕ) : sProp 𝕄 :=
  if n = 0 then Pipeline.ΦA spec0 c
  else iprop((owns (c : Thread nD τ) (Memref.whole cc0_scratch0) fullShare (wtAt m c) ∗ owns (c : Thread nD τ) (Memref.whole cc0_scratch1) fullShare (freqAt m c)
    ∗ owns (c : Thread nD τ) (Memref.whole cc0_scratch2) fullShare (psumAt m c n)) ∗ ∃ r, prngReg c r)

/-- What the body leaves in each window's buffer at each point: an input stays; a [2,1024] result has the point's row overwritten;
    the mean probabilities are there after the last point; the block of gradients is the point's. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = put (grid0.coords t) Y (auxAt m c t)
    | ⟨5, _⟩ => fun Y X => X = put (grid0.coords t) Y (ztAt m c t)
    | ⟨6, _⟩ => fun Y X => t.val = 7 → X = meanP (psumAt m c 8)
    | ⟨7, _⟩ => fun Y X => X = put (grid0.coords t) Y (lseAt m c t)
    | ⟨8, _⟩ => fun Y X => X = dlAt m c t
  Φ n := inv m c n.val
  q _ := fullShare
  owed _ := 0

theorem A_eq (c : Dev nD) (w : Fin cfg0.W) : (rdat m c).A w = V m c (Pipeline.arrRef spec0 w) := by dsimp only [rdat]
theorem after0 (c : Dev nD) (t : Fin cfg0.N) (Y X) : (rdat m c).after 0 t Y X = (X = Y) := by dsimp only [rdat]
theorem after1 (c : Dev nD) (t : Fin cfg0.N) (Y X) : (rdat m c).after 1 t Y X = (X = Y) := by dsimp only [rdat]
theorem after2 (c : Dev nD) (t : Fin cfg0.N) (Y X) : (rdat m c).after 2 t Y X = (X = Y) := by dsimp only [rdat]
theorem after3 (c : Dev nD) (t : Fin cfg0.N) (Y X) : (rdat m c).after 3 t Y X = (X = Y) := by dsimp only [rdat]
theorem after4 (c : Dev nD) (t : Fin cfg0.N) (Y X) : (rdat m c).after 4 t Y X = (X = put (grid0.coords t) Y (auxAt m c t)) := by dsimp only [rdat]
theorem after5 (c : Dev nD) (t : Fin cfg0.N) (Y X) : (rdat m c).after 5 t Y X = (X = put (grid0.coords t) Y (ztAt m c t)) := by dsimp only [rdat]
theorem after6 (c : Dev nD) (t : Fin cfg0.N) (Y X) : (rdat m c).after 6 t Y X = ((t.val = 7 → X = meanP (psumAt m c 8))) := by dsimp only [rdat]
theorem after7 (c : Dev nD) (t : Fin cfg0.N) (Y X) : (rdat m c).after 7 t Y X = (X = put (grid0.coords t) Y (lseAt m c t)) := by dsimp only [rdat]
theorem after8 (c : Dev nD) (t : Fin cfg0.N) (Y X) : (rdat m c).after 8 t Y X = (X = dlAt m c t) := by dsimp only [rdat]

/-! ## What the body finds -/

theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => by rwa [after0] at h) t Y h
  unfold RDat.fetched RDat.blockOf iblk; rw [A_eq]; rfl

theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => by rwa [after1] at h) t Y h
  unfold RDat.fetched RDat.blockOf iblk; rw [A_eq]; rfl

theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun t Y X h => by rwa [after2] at h) t Y h
  unfold RDat.fetched RDat.blockOf iblk; rw [A_eq]; rfl

theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun t Y X h => by rwa [after3] at h) t Y h
  unfold RDat.fetched RDat.blockOf iblk; rw [A_eq]; rfl

/-- The windows whose block is the whole array hold the same at every point. -/
theorem iblk0_eq (c : Dev nD) (t t' : Fin cfg0.N) : iblk m c 0 t = iblk m c 0 t' := rfl
theorem iblk2_eq (c : Dev nD) (t t' : Fin cfg0.N) : iblk m c 2 t = iblk m c 2 t' := rfl

/-- The first point is the one at which the scratch is filled, and the last the one at which the mean is stored. -/
theorem cond1_iff : ∀ t : Fin cfg0.N, cond1 (grid0.coords t) = 1#1 ↔ t.val = 0 := by decide
theorem cond2_iff : ∀ t : Fin cfg0.N, k0_cond2 (grid0.coords t) = 1#1 ↔ t.val = 7 := by decide

theorem pt_val (t : Fin cfg0.N) : pt t.val = t := by
  apply Fin.ext
  have h : t.val < 8 := N_0 ▸ t.isLt
  show t.val % 8 = t.val
  omega

/-- The body table's row at point `t` is the body at that point. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body at the first point. -/
theorem obl_first (c : Dev nD) (t : Fin cfg0.N) (ht : t.val = 0) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ bigSep Finset.univ fun w => owns c ((cfg0.win w).stage (cfg0.slots t w)) fullShare (Y w))
      ⊢ wp frame (wpE (defs₀ (F := F)) Variants.none c none) Set.univ (defs₀ (F := F) .tc cfg0.body (cfg0.bodyArgs t (cfg0.slots t))) fun _ =>
          iprop((rdat m c).Φ t.succ ∗ (rdat m c).owesAt () t.succ
            ∗ bigSep Finset.univ fun w => iprop(∃ X, ⌜(rdat m c).after w t (Y w) X⌝ ∗ owns c ((cfg0.win w).stage (cfg0.slots t w)) fullShare X)) := by
  have y0 := finds0 m c t _ (hY 0)
  have y1 := finds1 m c t _ (hY 1)
  have y2 := finds2 m c t _ (hY 2)
  have y3 := finds3 m c t _ (hY 3)
  have hn : t.val < 8 := N_0 ▸ t.isLt
  rw [bigSep_W0, bigSep_W0, defs₀_row]
  rw [show (rdat m c).owesAt () t.succ = (rdat m c).owesAt () t.castSucc from rfl,
    show (rdat m c).Φ t.succ = inv m c (t.val + 1) from rfl, show (rdat m c).Φ t.castSucc = inv m c t.val from rfl]
  simp only [after0, after1, after2, after3, after4, after5, after6, after7, after8]
  rw [y0, y1, y2, y3]
  unfold bodyAt0
  have hs : inv m c (t.val + 1) = _ := if_neg (Nat.succ_ne_zero _)
  rw [hs]
  have hp : inv m c t.val = _ := if_pos ht
  rw [hp]
  unfold Pipeline.ΦA
  rw [scopedRest0_eq]
  simp only [← owns_whole]
  iintro ⟨⟨⟨⟨%g0, G0⟩, ⟨%g1, G1⟩, ⟨%g2, G2⟩⟩, Hr⟩, Ho, H0, H1, H2, H3, H4, H5, H6, H7, H8⟩
  iapply (body_first c Set.univ (grid0.coords t) ((cond1_iff t).2 ht) (fun h => by have := (cond2_iff t).1 h; omega) _ _ _ _ _ _ _ _ _ _ _ _ _ _ _ _ _ _ _ _ _ _ _ _ (iblk m c 0 t) (iblk m c 1 t) (iblk m c 2 t) (iblk m c 3 t) (Y 4) (Y 5) (Y 6) (Y 7) (Y 8) g0 g1 g2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  iintro ⟨H0, H1, H2, H3, H4, H5, H6, H7, H8, G0, G1, G2⟩
  rw [show psumAt m c (t.val + 1) = psumNext (wtAt m c) (scaleAt m c t) (iblk m c 3 t) k0_pay72 from by
    show psumNext _ (scaleAt m c (pt t.val)) (iblk m c 3 (pt t.val)) (psumAt m c t.val) = _
    rw [pt_val, ht]; rfl]
  isplitl [G0 G1 G2 Hr]
  · isplitl [G0 G1 G2]
    · isplitl [G0]; · iexact G0
      isplitl [G1]; · iexact G1
      iexact G2
    · iexact Hr
  isplitl [Ho]; · iexact Ho
  isplitl [H0]
  · iexists _; isplitr
    swap; · iexact H0
    · ipureintro; rfl
  isplitl [H1]
  · iexists _; isplitr
    swap; · iexact H1
    · ipureintro; rfl
  isplitl [H2]
  · iexists _; isplitr
    swap; · iexact H2
    · ipureintro; rfl
  isplitl [H3]
  · iexists _; isplitr
    swap; · iexact H3
    · ipureintro; rfl
  isplitl [H4]
  · iexists _; isplitr
    swap; · iexact H4
    · ipureintro; rfl
  isplitl [H5]
  · iexists _; isplitr
    swap; · iexact H5
    · ipureintro; rfl
  isplitl [H6]
  · iexists _; isplitr
    swap; · iexact H6
    · ipureintro; intro h; omega
  isplitl [H7]
  · iexists _; isplitr
    swap; · iexact H7
    · ipureintro; rfl
  iexists _; isplitr
  swap; · iexact H8
  · ipureintro; rfl

set_option maxHeartbeats 1600000 in
/-- The body at a middle point. -/
theorem obl_mid (c : Dev nD) (t : Fin cfg0.N) (ht : ¬ t.val = 0) (ht7 : ¬ t.val = 7) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ bigSep Finset.univ fun w => owns c ((cfg0.win w).stage (cfg0.slots t w)) fullShare (Y w))
      ⊢ wp frame (wpE (defs₀ (F := F)) Variants.none c none) Set.univ (defs₀ (F := F) .tc cfg0.body (cfg0.bodyArgs t (cfg0.slots t))) fun _ =>
          iprop((rdat m c).Φ t.succ ∗ (rdat m c).owesAt () t.succ
            ∗ bigSep Finset.univ fun w => iprop(∃ X, ⌜(rdat m c).after w t (Y w) X⌝ ∗ owns c ((cfg0.win w).stage (cfg0.slots t w)) fullShare X)) := by
  have y0 := finds0 m c t _ (hY 0)
  have y1 := finds1 m c t _ (hY 1)
  have y2 := finds2 m c t _ (hY 2)
  have y3 := finds3 m c t _ (hY 3)
  have hn : t.val < 8 := N_0 ▸ t.isLt
  rw [bigSep_W0, bigSep_W0, defs₀_row]
  rw [show (rdat m c).owesAt () t.succ = (rdat m c).owesAt () t.castSucc from rfl,
    show (rdat m c).Φ t.succ = inv m c (t.val + 1) from rfl, show (rdat m c).Φ t.castSucc = inv m c t.val from rfl]
  simp only [after0, after1, after2, after3, after4, after5, after6, after7, after8]
  rw [y0, y1, y2, y3]
  unfold bodyAt0
  have hs : inv m c (t.val + 1) = _ := if_neg (Nat.succ_ne_zero _)
  rw [hs]
  have hp : inv m c t.val = _ := if_neg ht
  rw [hp]
  iintro ⟨⟨⟨G0, G1, G2⟩, Hr⟩, Ho, H0, H1, H2, H3, H4, H5, H6, H7, H8⟩
  iapply (body_mid c Set.univ (grid0.coords t) (fun h => ht ((cond1_iff t).1 h)) (fun h => ht7 ((cond2_iff t).1 h)) _ _ _ _ _ _ _ _ _ _ _ _ _ _ _ _ _ _ _ _ _ _ _ _ (iblk m c 0 t) (iblk m c 1 t) (iblk m c 2 t) (iblk m c 3 t) (Y 4) (Y 5) (Y 6) (Y 7) (Y 8) (wtAt m c) (freqAt m c) (psumAt m c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  iintro ⟨H0, H1, H2, H3, H4, H5, H6, H7, H8, G0, G1, G2⟩
  rw [show psumAt m c (t.val + 1) = psumNext (wtAt m c) (scaleAt m c t) (iblk m c 3 t) (psumAt m c t.val) from by
    show psumNext _ (scaleAt m c (pt t.val)) (iblk m c 3 (pt t.val)) (psumAt m c t.val) = _
    rw [pt_val]]
  isplitl [G0 G1 G2 Hr]
  · isplitl [G0 G1 G2]
    · isplitl [G0]; · iexact G0
      isplitl [G1]; · iexact G1
      iexact G2
    · iexact Hr
  isplitl [Ho]; · iexact Ho
  isplitl [H0]
  · iexists _; isplitr
    swap; · iexact H0
    · ipureintro; rfl
  isplitl [H1]
  · iexists _; isplitr
    swap; · iexact H1
    · ipureintro; rfl
  isplitl [H2]
  · iexists _; isplitr
    swap; · iexact H2
    · ipureintro; rfl
  isplitl [H3]
  · iexists _; isplitr
    swap; · iexact H3
    · ipureintro; rfl
  isplitl [H4]
  · iexists _; isplitr
    swap; · iexact H4
    · ipureintro; rfl
  isplitl [H5]
  · iexists _; isplitr
    swap; · iexact H5
    · ipureintro; rfl
  isplitl [H6]
  · iexists _; isplitr
    swap; · iexact H6
    · ipureintro; intro h; exact absurd h ht7
  isplitl [H7]
  · iexists _; isplitr
    swap; · iexact H7
    · ipureintro; rfl
  iexists _; isplitr
  swap; · iexact H8
  · ipureintro; rfl

set_option maxHeartbeats 1600000 in
/-- The body at the last point. -/
theorem obl_last (c : Dev nD) (t : Fin cfg0.N) (ht : ¬ t.val = 0) (ht7 : t.val = 7) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ bigSep Finset.univ fun w => owns c ((cfg0.win w).stage (cfg0.slots t w)) fullShare (Y w))
      ⊢ wp frame (wpE (defs₀ (F := F)) Variants.none c none) Set.univ (defs₀ (F := F) .tc cfg0.body (cfg0.bodyArgs t (cfg0.slots t))) fun _ =>
          iprop((rdat m c).Φ t.succ ∗ (rdat m c).owesAt () t.succ
            ∗ bigSep Finset.univ fun w => iprop(∃ X, ⌜(rdat m c).after w t (Y w) X⌝ ∗ owns c ((cfg0.win w).stage (cfg0.slots t w)) fullShare X)) := by
  have y0 := finds0 m c t _ (hY 0)
  have y1 := finds1 m c t _ (hY 1)
  have y2 := finds2 m c t _ (hY 2)
  have y3 := finds3 m c t _ (hY 3)
  have hn : t.val < 8 := N_0 ▸ t.isLt
  rw [bigSep_W0, bigSep_W0, defs₀_row]
  rw [show (rdat m c).owesAt () t.succ = (rdat m c).owesAt () t.castSucc from rfl,
    show (rdat m c).Φ t.succ = inv m c (t.val + 1) from rfl, show (rdat m c).Φ t.castSucc = inv m c t.val from rfl]
  simp only [after0, after1, after2, after3, after4, after5, after6, after7, after8]
  rw [y0, y1, y2, y3]
  unfold bodyAt0
  have hs : inv m c (t.val + 1) = _ := if_neg (Nat.succ_ne_zero _)
  rw [hs]
  have hp : inv m c t.val = _ := if_neg ht
  rw [hp]
  iintro ⟨⟨⟨G0, G1, G2⟩, Hr⟩, Ho, H0, H1, H2, H3, H4, H5, H6, H7, H8⟩
  iapply (body_last c Set.univ (grid0.coords t) (fun h => ht ((cond1_iff t).1 h)) ((cond2_iff t).2 ht7) _ _ _ _ _ _ _ _ _ _ _ _ _ _ _ _ _ _ _ _ _ _ _ _ (iblk m c 0 t) (iblk m c 1 t) (iblk m c 2 t) (iblk m c 3 t) (Y 4) (Y 5) (Y 6) (Y 7) (Y 8) (wtAt m c) (freqAt m c) (psumAt m c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  iintro ⟨H0, H1, H2, H3, H4, H5, H6, H7, H8, G0, G1, G2⟩
  rw [show psumAt m c (t.val + 1) = psumNext (wtAt m c) (scaleAt m c t) (iblk m c 3 t) (psumAt m c t.val) from by
    show psumNext _ (scaleAt m c (pt t.val)) (iblk m c 3 (pt t.val)) (psumAt m c t.val) = _
    rw [pt_val]]
  isplitl [G0 G1 G2 Hr]
  · isplitl [G0 G1 G2]
    · isplitl [G0]; · iexact G0
      isplitl [G1]; · iexact G1
      iexact G2
    · iexact Hr
  isplitl [Ho]; · iexact Ho
  isplitl [H0]
  · iexists _; isplitr
    swap; · iexact H0
    · ipureintro; rfl
  isplitl [H1]
  · iexists _; isplitr
    swap; · iexact H1
    · ipureintro; rfl
  isplitl [H2]
  · iexists _; isplitr
    swap; · iexact H2
    · ipureintro; rfl
  isplitl [H3]
  · iexists _; isplitr
    swap; · iexact H3
    · ipureintro; rfl
  isplitl [H4]
  · iexists _; isplitr
    swap; · iexact H4
    · ipureintro; rfl
  isplitl [H5]
  · iexists _; isplitr
    swap; · iexact H5
    · ipureintro; rfl
  isplitl [H6]
  · iexists _; isplitr
    swap; · iexact H6
    · ipureintro; intro _
      show _ = meanP (psumNext (wtAt m c) (scaleAt m c (pt 7)) (iblk m c 3 (pt 7)) (psumAt m c 7))
      rw [show pt 7 = t from (congrArg pt ht7.symm).trans (pt_val t), show (7 : ℕ) = t.val from ht7.symm]
      rfl
  isplitl [H7]
  · iexists _; isplitr
    swap; · iexact H7
    · ipureintro; rfl
  iexists _; isplitr
  swap; · iexact H8
  · ipureintro; rfl

/-- The body at every point. -/
theorem obligation (c : Dev nD) : (rdat m c).BodyObligation (defs₀ (F := F)) Variants.none () Set.univ := fun t Y hY => by
  by_cases ht : t.val = 0
  · exact obl_first m c t ht Y hY
  · by_cases ht7 : t.val = 7
    · exact obl_last m c t ht ht7 Y hY
    · exact obl_mid m c t ht ht7 Y hY

/-! ## The launch -/

set_option backward.isDefEq.respectTransparency.types false in
set_option maxHeartbeats 800000 in
/-- Every weakly fair execution ends, with each array at what the windows allow, every other buffer as the region found it, and
    every semaphore at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track cfgs (0 : Fin 1) launch0 defs₀ Variants.none (rdat m) m ρ main
    (hbody := obligation m) (hshare := fun c => (rdat m c).share_full fun _ => rfl)
    (howed := fun _ _ => rfl) (V := V m) (hmain := hmain m Variants.none) (hA := A_eq m)
    (hin := fun c => .rfl)
    (hout := fun c => by
      show inv m c (8 : ℕ) ⊢ _
      unfold inv
      rw [if_neg (by decide : ¬ (8 : ℕ) = 0), owns_whole, owns_whole, owns_whole]
      unfold Pipeline.ΦA
      rw [scopedRest0_eq]
      iintro ⟨⟨G0, G1, G2⟩, Hr⟩
      isplitl [G0 G1 G2]
      · isplitl [G0]; · iexists _; iexact G0
        isplitl [G1]; · iexists _; iexact G1
        iexists _; iexact G2
      · iexact Hr)
    (Q' := fun r => Pipeline.RDat.FramePost cfg0 (rdat m) (V m) r ∧ r.2.sem = fun _ => 0) (hQ' := fun _ h => h)

variable {m ρ}

/-- The arguments end as launched. -/
theorem args_kept {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have e1 := (h c).1 1
  have e2 := (h c).1 2
  rw [RDat.ArrAt_in (rdat m c) 1 rfl] at e1
  rw [RDat.ArrAt_in (rdat m c) 2 rfl] at e2
  exact ⟨((h c).2 main_arg0 (Pipeline.mem_restRefs_of main_arg0 (by decide) (by decide))).trans (V_main_arg0 m c),
    e1.trans ((A_eq m c 1).trans (V_main_arg1 m c)), e2.trans ((A_eq m c 2).trans (V_main_arg2 m c)),
    ((h c).2 main_arg3 (Pipeline.mem_restRefs_of main_arg3 (by decide) (by decide))).trans (V_main_arg3 m c)⟩

variable (m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept h.1, h.2⟩) (run_main m ρ)

end Cert.KernelIdeal.Hand

end
-- ==== Proof.Arrays.lean ====
module

public import proofs.«01_k».proof.Proof.Run

@[expose] public section

/-!
What the result arrays hold after the run: the three [2,1024] results and the gradients, block by block, and the mean probabilities.
-/

set_option maxRecDepth 16384

noncomputable section

namespace Cert.KernelIdeal.Hand

open Cert.KernelIdeal Cert.KernelIdeal.Gen Cert.Hand
open Idealize.ShloMosaic Idealize.ShloMosaic.TcCoe
open Idealize.ShloMosaic.Pipeline (RDat)

variable {F : FTy → Type} [FloatOps F]
variable (m : (ℓ : Loc nD τ sig) → Buf (Elt F) ℓ)

theorem lt8 (t : Fin cfg0.N) : t.val < 8 := N_0 ▸ t.isLt

/-! ## The rows of a [2,1024] array -/

/-- The row and the column at which point `t` stores its entry `l`. -/
abbrev rowOf (t : ℕ) : Fin 2 := ⟨t / 4 % 2, by omega⟩
abbrev colOf (t : ℕ) (l : Fin 256) : Fin 1024 := ⟨t % 4 * 256 + l.val, by omega⟩

theorem off_eq : ∀ t : Fin cfg0.N, k0_off1 (grid0.coords t) = ![t.val / 4, t.val % 4 * 256] := by decide

/-- Where point `t` stores its entry `l`. -/
theorem rowRect_emb (t : Fin cfg0.N) (u : Fin 1) (l : Fin 256) :
    (rowRect (grid0.coords t)).emb (ix2 u l) = ix2 (rowOf t.val) (colOf t.val l) := by
  have ht := lt8 t
  have hu := u.isLt
  funext a
  apply Fin.ext
  match a with
  | ⟨0, _⟩ =>
    show k0_off1 (grid0.coords t) 0 + 1 * u.val = t.val / 4 % 2
    rw [off_eq t]; show t.val / 4 + 1 * u.val = t.val / 4 % 2; omega
  | ⟨1, _⟩ =>
    show k0_off1 (grid0.coords t) 1 + 1 * l.val = t.val % 4 * 256 + l.val
    rw [off_eq t]; show t.val % 4 * 256 + 1 * l.val = t.val % 4 * 256 + l.val; omega

/-- The entries read at point `t`. -/
theorem blockRow_apply (t : Fin cfg0.N) (x : Vec F S2x1024 .f32) (u : Fin 1) (l : Fin 256) :
    blockRow (grid0.coords t) x (ix2 u l) = x (ix2 (rowOf t.val) (colOf t.val l)) :=
  congrArg x (rowRect_emb t u l)

/-- The array holds the entries of the points before `n`. -/
def Rows (v : Fin cfg0.N → Vec F S1x256 .f32) (n : ℕ) (X : Vec F S2x1024 .f32) : Prop :=
  ∀ t : Fin cfg0.N, t.val < n → ∀ l : Fin 256, X (ix2 (rowOf t.val) (colOf t.val l)) = v t (ix2 0 l)

/-- Storing point `t`'s entries keeps those of the points before. -/
theorem rows_put (v : Fin cfg0.N → Vec F S1x256 .f32) (t : Fin cfg0.N) (Y : Vec F S2x1024 .f32) (h : Rows v t.val Y) :
    Rows v (t.val + 1) (put (grid0.coords t) Y (v t)) := by
  intro t' ht' l
  have h8 := lt8 t
  have h8' := lt8 t'
  unfold put
  rcases Nat.lt_succ_iff_lt_or_eq.1 ht' with hlt | heq
  · rw [Rect.overlay_of_not_mem _ _ _ ?_, h t' hlt l]
    rw [Rect.mem_set_unit]
    intro hm
    have h0 := hm 0
    have h1 := hm 1
    rw [off_eq t] at h0 h1
    have h0' : t.val / 4 ≤ t'.val / 4 % 2 ∧ t'.val / 4 % 2 < t.val / 4 + 1 := h0
    have h1' : t.val % 4 * 256 ≤ t'.val % 4 * 256 + l.val ∧ t'.val % 4 * 256 + l.val < t.val % 4 * 256 + 256 := h1
    have hl := l.isLt
    omega
  · have ht : t' = t := Fin.ext heq
    subst ht
    rw [← rowRect_emb t' 0 l]
    exact Rect.overlay_emb _ _ _ _

/-- If each point puts its entries into what the point before left, then after point `t` the entries of all points up to `t` are there. -/
theorem rows_of (v : Fin cfg0.N → Vec F S1x256 .f32) (L Fd : Fin cfg0.N → Vec F S2x1024 .f32 → Prop)
    (hL : ∀ t X, L t X → ∃ Y, Fd t Y ∧ X = put (grid0.coords t) Y (v t))
    (hF : ∀ t : Fin cfg0.N, t.val ≠ 0 → ∀ Y, Fd t Y → L ⟨t.val - 1, Nat.lt_of_le_of_lt (Nat.sub_le _ _) t.isLt⟩ Y) :
    ∀ (n : ℕ) (hn : n < cfg0.N) (X), L ⟨n, hn⟩ X → Rows v (n + 1) X := by
  intro n
  induction n with
  | zero =>
    intro hn X h
    obtain ⟨Y, -, rfl⟩ := hL _ _ h
    exact rows_put v ⟨0, hn⟩ Y fun t' ht' => absurd ht' (Nat.not_lt_zero _)
  | succ n ih =>
    intro hn X h
    obtain ⟨Y, hY, rfl⟩ := hL _ _ h
    exact rows_put v ⟨n + 1, hn⟩ Y (ih (Nat.lt_of_succ_lt hn) Y (hF ⟨n + 1, hn⟩ (Nat.succ_ne_zero n) Y hY))

/-! ## The windows written back once, after the last point -/

/-- The last point. -/
abbrev lastPt : Fin cfg0.N := ⟨7, by rw [show cfg0.N = 8 from N_0]; omega⟩

/-- A window that is written back after the last point only: its array is what the last point left, written back. -/
theorem arr_last (c : Dev nD) (w : Fin cfg0.W) (hfl : (cfg0.win w).flush lastPt = true) (G) (h : (rdat m c).ArrAt w cfg0.N G) :
    ∃ G₀ X, (rdat m c).Leaves w lastPt X
      ∧ G = ((cfg0.win w).blk lastPt).view.write (Elt F) G₀ ((cfg0.win w).cut (cfg0.grid.coords lastPt) X) Finset.univ := by
  rw [show cfg0.N = (lastPt : Fin cfg0.N).val + 1 from N_0, RDat.ArrAt_succ, if_pos hfl] at h
  obtain ⟨G₀, X, -, hX, hG⟩ := h
  exact ⟨G₀, X, hX, hG⟩

theorem whole4 (t : Fin cfg0.N) (X : Vec F S2x1024 .f32) : ((cfg0.win 4).blk t).view.read (Elt F) X = X := by
  funext x
  refine congrArg X (funext fun a => Fin.ext ?_)
  match a with
  | ⟨0, _⟩ => show 0 + 1 * (x 0).val = (x 0).val; omega
  | ⟨1, _⟩ => show 0 + 1 * (x 1).val = (x 1).val; omega

theorem whole5 (t : Fin cfg0.N) (X : Vec F S2x1024 .f32) : ((cfg0.win 5).blk t).view.read (Elt F) X = X := by
  funext x
  refine congrArg X (funext fun a => Fin.ext ?_)
  match a with
  | ⟨0, _⟩ => show 0 + 1 * (x 0).val = (x 0).val; omega
  | ⟨1, _⟩ => show 0 + 1 * (x 1).val = (x 1).val; omega

theorem whole6 (t : Fin cfg0.N) (X : Vec F S1x128 .f32) : ((cfg0.win 6).blk t).view.read (Elt F) X = X := by
  funext x
  refine congrArg X (funext fun a => Fin.ext ?_)
  match a with
  | ⟨0, _⟩ => show 0 + 1 * (x 0).val = (x 0).val; omega
  | ⟨1, _⟩ => show 0 + 1 * (x 1).val = (x 1).val; omega

theorem whole7 (t : Fin cfg0.N) (X : Vec F S2x1024 .f32) : ((cfg0.win 7).blk t).view.read (Elt F) X = X := by
  funext x
  refine congrArg X (funext fun a => Fin.ext ?_)
  match a with
  | ⟨0, _⟩ => show 0 + 1 * (x 0).val = (x 0).val; omega
  | ⟨1, _⟩ => show 0 + 1 * (x 1).val = (x 1).val; omega

/-- A point finds in a result's buffer what the point before left there, since nothing before the last point is written back. -/
theorem finds_prev (c : Dev nD) (w : Fin cfg0.W) (hin : (cfg0.win w).isOut = true)
    (hfl : ∀ t : Fin cfg0.N, (cfg0.win w).flush t = true ↔ t.val % 8 = 7) (t : Fin cfg0.N) (ht : t.val ≠ 0) (Y)
    (h : (rdat m c).Finds w t Y) : (rdat m c).Leaves w ⟨t.val - 1, Nat.lt_of_le_of_lt (Nat.sub_le _ _) t.isLt⟩ Y := by
  have h8 := lt8 t
  rcases ((rdat m c).finds_of_pos ((cfg0.win w).fetch_out hin t) ht Y).1 h with h | h
  · have := (hfl _).1 h
    have h7 : (t.val - 1) % 8 = 7 := this
    omega
  · exact h

/-- The auxiliary losses, a point at a time. -/
theorem aux_rows (c : Dev nD) (G : Vec F S2x1024 .f32) (h : (rdat m c).ArrAt 4 cfg0.N G) : Rows (auxAt m c) 8 G := by
  obtain ⟨G₀, X, hX, hG⟩ := arr_last m c 4 ((flush0_4 lastPt).2 rfl) G h
  have e : G = X := by
    rw [← whole4 lastPt G, hG]
    exact View.read_write_univ _ _
  rw [e]
  exact rows_of (auxAt m c) (fun t X => (rdat m c).Leaves 4 t X) (fun t X => (rdat m c).Finds 4 t X)
    (fun t X h => by obtain ⟨Y, hY, ha⟩ := h; rw [after4] at ha; exact ⟨Y, hY, ha⟩)
    (finds_prev m c 4 rfl flush0_4) 7 _ X hX

/-- The z losses, a point at a time. -/
theorem zt_rows (c : Dev nD) (G : Vec F S2x1024 .f32) (h : (rdat m c).ArrAt 5 cfg0.N G) : Rows (ztAt m c) 8 G := by
  obtain ⟨G₀, X, hX, hG⟩ := arr_last m c 5 ((flush0_5 lastPt).2 rfl) G h
  have e : G = X := by
    rw [← whole5 lastPt G, hG]
    exact View.read_write_univ _ _
  rw [e]
  exact rows_of (ztAt m c) (fun t X => (rdat m c).Leaves 5 t X) (fun t X => (rdat m c).Finds 5 t X)
    (fun t X h => by obtain ⟨Y, hY, ha⟩ := h; rw [after5] at ha; exact ⟨Y, hY, ha⟩)
    (finds_prev m c 5 rfl flush0_5) 7 _ X hX

/-- The logarithms of the sums of exponentials, a point at a time. -/
theorem lse_rows (c : Dev nD) (G : Vec F S2x1024 .f32) (h : (rdat m c).ArrAt 7 cfg0.N G) : Rows (lseAt m c) 8 G := by
  obtain ⟨G₀, X, hX, hG⟩ := arr_last m c 7 ((flush0_7 lastPt).2 rfl) G h
  have e : G = X := by
    rw [← whole7 lastPt G, hG]
    exact View.read_write_univ _ _
  rw [e]
  exact rows_of (lseAt m c) (fun t X => (rdat m c).Leaves 7 t X) (fun t X => (rdat m c).Finds 7 t X)
    (fun t X h => by obtain ⟨Y, hY, ha⟩ := h; rw [after7] at ha; exact ⟨Y, hY, ha⟩)
    (finds_prev m c 7 rfl flush0_7) 7 _ X hX

/-- The mean probabilities. -/
theorem mean_arr (c : Dev nD) (G : Vec F S1x128 .f32) (h : (rdat m c).ArrAt 6 cfg0.N G) : G = meanP (psumAt m c 8) := by
  obtain ⟨G₀, X, hX, hG⟩ := arr_last m c 6 ((flush0_6 lastPt).2 rfl) G h
  have e : G = X := by
    rw [← whole6 lastPt G, hG]
    exact View.read_write_univ _ _
  obtain ⟨Y, -, ha⟩ := hX
  rw [after6] at ha
  rw [e]
  exact ha rfl

/-! ## The gradients, written back at every point -/

/-- The gradient's place for token `l` of point `t`. -/
abbrev tokOf (t : ℕ) (l : Fin 256) : Fin 2048 := ⟨t % 8 * 256 + l.val, by omega⟩

theorem index8 : ∀ t : Fin cfg0.N, win0_8.index t 0 * 256 = t.val * 256 ∧ win0_8.index t 1 * 128 = 0 := by decide

/-- Point `t`'s block of gradients: 256 consecutive tokens, every expert. -/
theorem blk8_emb (t : Fin cfg0.N) (l : Fin 256) (e : Fin 128) :
    ((cfg0.win 8).blk t).view.emb (ix2 l e) = (ix2 (tokOf t.val l) e : S2048x128.Idx) := by
  have h8 := lt8 t
  refine funext fun a => Fin.ext ?_
  match a with
  | ⟨0, _⟩ =>
    show win0_8.index t 0 * 256 + 1 * l.val = t.val % 8 * 256 + l.val
    rw [(index8 t).1]; omega
  | ⟨1, _⟩ =>
    show win0_8.index t 1 * 128 + 1 * e.val = e.val
    rw [(index8 t).2]; omega

/-- The blocks of the points before `n` are those points' gradients. -/
theorem dl_upto (c : Dev nD) : ∀ (n : ℕ) (_ : n ≤ cfg0.N) (G : Vec F S2048x128 .f32), (rdat m c).ArrAt 8 n G →
    ∀ t : Fin cfg0.N, t.val < n → ∀ (l : Fin 256) (e : Fin 128), G (ix2 (tokOf t.val l) e) = dlAt m c t (ix2 l e) := by
  intro n
  induction n with
  | zero => intro _ G _ t ht; exact absurd ht (Nat.not_lt_zero _)
  | succ n ih =>
    intro hn G h t ht l e
    have hn' : n < cfg0.N := hn
    rw [show n + 1 = (⟨n, hn'⟩ : Fin cfg0.N).val + 1 from rfl, RDat.ArrAt_succ, if_pos (flush0_8 _)] at h
    obtain ⟨G₀, X, hG₀, hX, hG⟩ := h
    obtain ⟨Y, -, ha⟩ := hX
    rw [after8] at ha
    rcases Nat.lt_succ_iff_lt_or_eq.1 ht with hlt | heq
    · rw [hG, ← ih (Nat.le_of_lt hn') G₀ hG₀ t hlt l e]
      refine View.write_of_not_mem _ _ _ ?_
      intro hm
      obtain ⟨x, -, hx⟩ := Finset.mem_map.1 hm
      have hx' : (ix2 (tokOf n (x 0)) (x 1) : S2048x128.Idx) = ix2 (tokOf t.val l) e := by
        rw [← hx, ← blk8_emb ⟨n, hn'⟩ (x 0) (x 1), ← eq_ix2 (n0 := 256) (n1 := 128) x]
      have h0 := congrArg Fin.val (congrFun hx' 0)
      have h0' : n % 8 * 256 + (x 0).val = t.val % 8 * 256 + l.val := h0
      have hx0 : (x 0).val < 256 := (x 0).isLt
      have hl := l.isLt
      have hN : cfg0.N = 8 := N_0
      omega
    · have htn : t = ⟨n, hn'⟩ := Fin.ext heq
      subst htn
      rw [hG, ← blk8_emb]
      refine (View.write_emb_of_mem _ _ (Finset.mem_univ _)).trans ?_
      rw [ha]
      rfl

end Cert.KernelIdeal.Hand

end
-- ==== Proof.Softmax.lean ====
module

public import Idealize.ShloMosaic.Lib.Pointwise

@[expose] public section

/-!
The softmax of one token's 128 logits over the extended reals: the logarithm of the sum of exponentials and the probabilities in the
form in which they are shifted by the largest logit, and the same in the form in which an infinite largest logit is guarded against.
-/

noncomputable section

namespace Cert.Hand

open Idealize.ShloMosaic

/-- The largest logit. -/
def top (z : Fin 128 → EReal) : EReal := Finset.univ.fold max ⊥ z

/-- The sum of the exponentials of the logits, each less the largest. -/
def esum (z : Fin 128 → EReal) : EReal := ∑ e, Ideal.exp (z e - top z)

/-- The logarithm of the sum of exponentials. -/
def lse (z : Fin 128 → EReal) : EReal := Ideal.log (esum z) + top z

/-- The probability of expert `e`. -/
def prob (z : Fin 128 → EReal) (e : Fin 128) : EReal := Ideal.exp (z e - top z) * Ideal.div 1 (esum z)

/-- The word that says that the largest logit is finite. -/
def guard (z : Fin 128 → EReal) : BitVec 1 := IntOp.xori (FloatOps.weird (F := Ideal) (show Ideal .f32 from top z)) 1#1

/-- The pattern of minus infinity. -/
theorem ofBits_neg_inf : Ideal.ofBits .f32 4286578688#32 = ⊥ := by simp [Ideal.ofBits, Ideal.ieee]

theorem le_top (z : Fin 128 → EReal) (e : Fin 128) : z e ≤ top z := by
  show z e ≤ Finset.univ.sup z
  exact Finset.le_sup (Finset.mem_univ e)

/-- Some expert has the largest logit. -/
theorem exists_top (z : Fin 128 → EReal) : ∃ e, z e = top z := by
  obtain ⟨e, -, he⟩ := Finset.exists_mem_eq_sup Finset.univ ⟨(0 : Fin 128), Finset.mem_univ _⟩ z
  exact ⟨e, he.symm⟩

theorem max_top (z : Fin 128 → EReal) : max ⊥ (top z) = top z := max_eq_right bot_le

theorem guard_of_top (z : Fin 128 → EReal) (h : top z = ⊤) : guard z = 0#1 := by
  unfold guard; rw [h]; show IntOp.xori (BitVec.ofBool (decide ((⊤ : EReal) = ⊤ ∨ (⊤ : EReal) = ⊥))) 1#1 = 0#1
  rw [decide_eq_true (Or.inl rfl)]; rfl

theorem guard_of_bot (z : Fin 128 → EReal) (h : top z = ⊥) : guard z = 0#1 := by
  unfold guard; rw [h]; show IntOp.xori (BitVec.ofBool (decide ((⊥ : EReal) = ⊤ ∨ (⊥ : EReal) = ⊥))) 1#1 = 0#1
  rw [decide_eq_true (Or.inr rfl)]; rfl

theorem guard_of_real (z : Fin 128 → EReal) (r : ℝ) (h : top z = (r : EReal)) : guard z = 1#1 := by
  unfold guard; rw [h]; show IntOp.xori (BitVec.ofBool (decide ((r : EReal) = ⊤ ∨ (r : EReal) = ⊥))) 1#1 = 1#1
  rw [decide_eq_false (by simp)]; rfl

/-- When the largest logit is infinite, every logit less the largest is minus infinity. -/
theorem sub_top (z : Fin 128 → EReal) (h : top z = ⊤ ∨ top z = ⊥) (e : Fin 128) : z e - top z = ⊥ := by
  rcases h with h | h
  · rw [h, sub_eq_add_neg, EReal.neg_top, EReal.add_bot]
  · have hz : z e = ⊥ := le_bot_iff.1 (h ▸ le_top z e)
    rw [hz, sub_eq_add_neg, EReal.bot_add]

theorem esum_infinite (z : Fin 128 → EReal) (h : top z = ⊤ ∨ top z = ⊥) : esum z = 0 := by
  unfold esum
  exact Finset.sum_eq_zero fun e _ => by rw [sub_top z h e]; rfl

/-- When the largest logit is infinite, the logarithm of the sum is minus infinity. -/
theorem lse_infinite (z : Fin 128 → EReal) (h : top z = ⊤ ∨ top z = ⊥) : lse z = ⊥ := by
  unfold lse
  rw [esum_infinite z h]
  have h0 : Ideal.log 0 = ⊥ := by
    show (if (0 : ℝ) ≤ 0 then (⊥ : EReal) else _) = ⊥
    rw [if_pos le_rfl]
  rw [h0, EReal.bot_add]

/-- When the largest logit is infinite, every probability is zero. -/
theorem prob_infinite (z : Fin 128 → EReal) (h : top z = ⊤ ∨ top z = ⊥) (e : Fin 128) : prob z e = 0 := by
  unfold prob
  rw [sub_top z h e]
  exact zero_mul _

/-- An exponential of a difference from a real that it does not exceed is a real that is not negative. -/
theorem exp_real (x : EReal) (r : ℝ) (h : x ≤ r) : ∃ s : ℝ, 0 ≤ s ∧ Ideal.exp (x - r) = (s : EReal) := by
  induction x with
  | bot => exact ⟨0, le_rfl, by rw [EReal.bot_sub]; rfl⟩
  | top => exact absurd h (by simp)
  | coe x => exact ⟨Real.exp (x - r), (Real.exp_pos _).le, by rw [← EReal.coe_sub]; rfl⟩

/-- A finite sum of reals, among the extended reals. -/
theorem coe_sum {ι : Type} (S : Finset ι) (f : ι → ℝ) : ((∑ i ∈ S, f i : ℝ) : EReal) = ∑ i ∈ S, (f i : EReal) := by
  classical
  induction S using Finset.induction_on with
  | empty => rfl
  | insert a S ha ih => rw [Finset.sum_insert ha, Finset.sum_insert ha, EReal.coe_add, ih]

/-- When the largest logit is finite, the sum of exponentials is a positive real. -/
theorem esum_real (z : Fin 128 → EReal) (r : ℝ) (h : top z = (r : EReal)) : ∃ s : ℝ, 0 < s ∧ esum z = (s : EReal) := by
  have hz (e : Fin 128) : ∃ s : ℝ, 0 ≤ s ∧ Ideal.exp (z e - r) = (s : EReal) := exp_real _ _ (h ▸ le_top z e)
  choose s hs0 hs using hz
  obtain ⟨e, he⟩ := exists_top z
  have h1 : s e = 1 := by
    have := hs e
    rw [he, h, ← EReal.coe_sub, sub_self] at this
    have h' : Ideal.exp ((0 : ℝ) : EReal) = ((Real.exp 0 : ℝ) : EReal) := rfl
    rw [h', Real.exp_zero] at this
    exact (EReal.coe_injective this).symm
  refine ⟨∑ e, s e, ?_, ?_⟩
  · calc (0 : ℝ) < s e := by rw [h1]; exact one_pos
      _ ≤ ∑ e, s e := Finset.single_le_sum (fun i _ => hs0 i) (Finset.mem_univ e)
  · unfold esum
    rw [h, coe_sum]
    exact Finset.sum_congr rfl fun i _ => hs i

/-- When the largest logit is finite, the probability is the exponential of the logit less the logarithm of the sum. -/
theorem exp_sub_lse (z : Fin 128 → EReal) (r : ℝ) (h : top z = (r : EReal)) (e : Fin 128) : Ideal.exp (z e - lse z) = prob z e := by
  obtain ⟨s, hs, es⟩ := esum_real z r h
  have hl : lse z = ((Real.log s + r : ℝ) : EReal) := by
    unfold lse
    rw [es, h]
    show (if s ≤ 0 then (⊥ : EReal) else (Real.log s : EReal)) + (r : EReal) = _
    rw [if_neg (not_le.2 hs), EReal.coe_add]
  have hd : Ideal.div 1 (s : EReal) = ((s⁻¹ : ℝ) : EReal) := by
    unfold Ideal.div
    rw [if_neg (by simpa using hs.ne'), one_mul, EReal.coe_inv]
  unfold prob
  rw [hl, es, h, hd]
  have hle : z e ≤ (r : EReal) := h ▸ le_top z e
  induction hx : z e with
  | bot => rw [EReal.bot_sub, EReal.bot_sub]; show (0 : EReal) = 0 * _; rw [zero_mul]
  | top => rw [hx] at hle; exact absurd hle (by simp)
  | coe x =>
    rw [← EReal.coe_sub, ← EReal.coe_sub]
    show ((Real.exp _ : ℝ) : EReal) = ((Real.exp _ : ℝ) : EReal) * _
    rw [← EReal.coe_mul]
    congr 1
    rw [show x - (Real.log s + r) = (x - r) - Real.log s by ring, Real.exp_sub, Real.exp_log hs, div_eq_mul_inv]

/-- The logarithm of the sum of exponentials as the guarded form computes it: the shift is zero unless the largest logit is finite,
    the sum is taken by its absolute value, and the result is minus infinity unless the largest logit is finite. -/
theorem guarded_lse (z : Fin 128 → EReal) :
    Scalar.select (guard z)
      (Ideal.log (max (∑ e, Ideal.exp (z e - Scalar.select (guard z) (top z) 0)) (-∑ e, Ideal.exp (z e - Scalar.select (guard z) (top z) 0)))
        + Scalar.select (guard z) (top z) 0) ⊥ = lse z := by
  induction h : top z with
  | bot => rw [guard_of_bot z h, lse_infinite z (.inr h)]; rfl
  | top => rw [guard_of_top z h, lse_infinite z (.inl h)]; rfl
  | coe r =>
    obtain ⟨s, hs, es⟩ := esum_real z r h
    rw [guard_of_real z r h]
    have e1 (a b : EReal) : Scalar.select (α := EReal) (1#1) a b = a := rfl
    rw [e1, e1]
    have e2 : (∑ e, Ideal.exp (z e - (r : EReal))) = esum z := by unfold esum; rw [h]
    rw [e2]
    have e3 : max (esum z) (-esum z) = esum z := by
      rw [es, ← EReal.coe_neg]
      exact max_eq_left (EReal.coe_le_coe_iff.2 (by linarith))
    rw [e3]; unfold lse; rw [h]

/-- The probability as the guarded form computes it. -/
theorem guarded_prob (z : Fin 128 → EReal) (e : Fin 128) : Scalar.select (guard z) (Ideal.exp (z e - lse z)) 0 = prob z e := by
  induction h : top z with
  | bot => rw [guard_of_bot z h, prob_infinite z (.inr h)]; rfl
  | top => rw [guard_of_top z h, prob_infinite z (.inl h)]; rfl
  | coe r => rw [guard_of_real z r h, ← exp_sub_lse z r h]; rfl

end Cert.Hand

end
-- ==== Proof.Sums.lean ====
module

public import proofs.«01_k».proof.Proof.Softmax
public import Idealize.ShloMosaic.Lib.IndicatorCount

@[expose] public section

/-!
Sums cut into blocks, the number of ids that name an expert, and the constants of the two programs.
-/

set_option maxRecDepth 16384

noncomputable section

namespace Cert.Hand

open Idealize.ShloMosaic

/-- A sum over `a * b` places is the sum over `a` blocks of `b` places. -/
theorem sum_blocks (a b : ℕ) (g : Fin (a * b) → EReal) :
    ∑ i, g i = ∑ p : Fin a, ∑ q : Fin b, g ⟨p.val * b + q.val, by
      have hp := p.isLt; have hq := q.isLt
      calc p.val * b + q.val < p.val * b + b := by omega
        _ = (p.val + 1) * b := by ring
        _ ≤ a * b := Nat.mul_le_mul_right b hp⟩ := by
  rw [← Fintype.sum_prod_type', ← finProdFinEquiv.sum_comp]
  refine Finset.sum_congr rfl fun x _ => congrArg g (Fin.ext ?_)
  show x.2.val + b * x.1.val = x.1.val * b + x.2.val
  ring

/-- One if the two words agree, zero otherwise. -/
def same (a b : BitVec 32) : EReal := if a = b then 1 else 0

/-- The word that counts the places whose word is `w`, read as a number, is the sum of ones over those places. -/
theorem count_eq (w : BitVec 32) (g : Fin 16384 → BitVec 32) :
    FloatOps.sitofp (F := Ideal) .f32 (Finset.fold IntOp.addi (0#32) (fun x => BitVec.setWidth 32 (IntOp.cmpi .eq (g x) w)) Finset.univ)
      = ∑ x, same (g x) w := by
  rw [IndicatorCount.fold_addi_setWidth_eq_card]
  have hb (a b : BitVec 32) : IntOp.cmpi .eq a b = 1#1 ↔ a = b := by
    show BitVec.ofBool (a == b) = 1#1 ↔ _
    by_cases h : a = b
    · simp [h]
    · rw [beq_false_of_ne h]; simp [h]
  have hc : (Finset.univ.filter fun x => IntOp.cmpi .eq (g x) w = 1#1) = Finset.univ.filter fun x => g x = w :=
    Finset.filter_congr fun x _ => hb _ _
  rw [hc]
  have hle : (Finset.univ.filter fun x => g x = w).card ≤ 16384 :=
    (Finset.card_filter_le _ _).trans (by simp)
  generalize hn : (Finset.univ.filter fun x => g x = w).card = n at hle
  have hi : (BitVec.ofNat 32 n).toInt = (n : ℤ) := by
    rw [BitVec.toInt_eq_toNat_of_lt (by rw [BitVec.toNat_ofNat]; omega), BitVec.toNat_ofNat]
    omega
  show (((BitVec.ofNat 32 n).toInt : ℝ) : EReal) = _
  rw [hi, ← hn]
  unfold same
  rw [Finset.sum_ite, Finset.sum_const_zero, add_zero, Finset.sum_const, nsmul_one]
  rfl

/-- Dividing by 2048 is multiplying by the pattern of its inverse. -/
theorem div_2048 (x : EReal) : x * Ideal.ofBits .f32 0x3A000000#32 = Ideal.div x (Ideal.ofBits .f32 0x45000000#32) := by
  have h1 : Ideal.ofBits .f32 0x45000000#32 = ((2048 : ℝ) : EReal) := by
    simp [Ideal.ofBits, Ideal.ieee]; rw [← EReal.coe_mul]; norm_num
  have h2 : Ideal.ofBits .f32 0x3A000000#32 = ((2048⁻¹ : ℝ) : EReal) := by
    simp [Ideal.ofBits, Ideal.ieee]; rw [← EReal.coe_mul]; norm_num
  rw [h1, h2]
  unfold Ideal.div
  rw [if_neg (by simp), EReal.coe_inv]

end Cert.Hand

end
-- ==== Proof.Block.lean ====
module

public import proofs.«01_k».proof.Proof.Point
public import proofs.«01_k».proof.Proof.Sums

@[expose] public section

/-!
What one block of 256 tokens computes over the extended reals, from the transposed weights, the frequencies, the scales and the
tokens of the block.
-/

set_option maxRecDepth 16384

noncomputable section

namespace Cert.KernelIdeal.Hand

open Cert.KernelIdeal Cert.KernelIdeal.Gen Cert.Hand
open Idealize.ShloMosaic

variable (s0 : Vec Ideal S128x16384 .bf16) (s1 : Vec Ideal S128x128 .f32) (x1 : Vec Ideal S1x256 .f32) (x3 : Vec Ideal S256x16384 .fp8e4m3)

/-- The logits of the block's token `l`. -/
def z (l : Fin 256) (e : Fin 128) : EReal := (∑ k : Fin 16384, s0 (ix2 e k) * x3 (ix2 l k)) * x1 (ix2 0 l)

theorem logits (e : Fin 128) (l : Fin 256) : k0_pay74 (dotT s0 x3) x1 (ix2 e l) = z s0 x1 x3 l e := by
  unfold dotT
  pointwise [k0_pay74, k0_pay73, z]

theorem max_eq (u : Fin 1) (l : Fin 256) : k0_pay75 (dotT s0 x3) x1 (ix2 u l) = top (z s0 x1 x3 l) := by
  pointwise [k0_pay75, logits, ofBits_neg_inf]
  rfl

theorem exp_eq (e : Fin 128) (l : Fin 256) :
    k0_pay76 (dotT s0 x3) x1 (ix2 e l) = Ideal.exp (z s0 x1 x3 l e - top (z s0 x1 x3 l)) := by
  pointwise [k0_pay76, logits, max_eq]

theorem esum_eq (u : Fin 1) (l : Fin 256) : k0_pay77 (dotT s0 x3) x1 (ix2 u l) = esum (z s0 x1 x3 l) := by
  pointwise [k0_pay77, exp_eq, esum]

/-- The logarithm of the sum of exponentials. -/
theorem lse_eq (u : Fin 1) (l : Fin 256) : k0_pay78 (dotT s0 x3) x1 (ix2 u l) = lse (z s0 x1 x3 l) := by
  pointwise [k0_pay78, esum_eq, max_eq, lse]

/-- The probabilities. -/
theorem prob_eq (e : Fin 128) (l : Fin 256) : k0_pay79 (dotT s0 x3) x1 (ix2 e l) = prob (z s0 x1 x3 l) e := by
  pointwise [k0_pay79, exp_eq, esum_eq, prob]

theorem lseRow_apply (u : Fin 1) (l : Fin 256) : lseRow s0 x1 x3 (ix2 u l) = lse (z s0 x1 x3 l) := lse_eq s0 x1 x3 u l

/-- The z loss. -/
theorem ztRow_apply (u : Fin 1) (l : Fin 256) :
    ztRow s0 x1 x3 (ix2 u l) = Ideal.ofBits .f32 0x3503126F#32 * (lse (z s0 x1 x3 l) * lse (z s0 x1 x3 l)) := by
  unfold ztRow
  pointwise [k0_pay83, lse_eq]

variable (f : Fin 128 → EReal) (hf : ∀ (e e' : Fin 128), s1 (ix2 e e') = f e)

include hf in
/-- The frequencies beside each other: the same in all 256 columns. -/
theorem freq2_eq (e : Fin 128) (l : Fin 256) : k0_pay80 s1 (ix2 e l) = f e := by
  pointwise [k0_pay80, hf]
  split <;> rfl

include hf in
/-- The sum over the experts of probability times frequency. -/
theorem g_eq (u : Fin 1) (l : Fin 256) : k0_pay81 (dotT s0 x3) x1 s1 (ix2 u l) = ∑ e, prob (z s0 x1 x3 l) e * f e := by
  pointwise [k0_pay81, prob_eq, freq2_eq s1 f hf]

include hf in
/-- The auxiliary loss. -/
theorem auxRow_apply (u : Fin 1) (l : Fin 256) :
    auxRow s0 s1 x1 x3 (ix2 u l) = Ideal.ofBits .f32 0x3A23D70A#32 * ∑ e, prob (z s0 x1 x3 l) e * f e := by
  unfold auxRow
  rw [ld_full s1 _ (by decide)]
  pointwise [k0_pay82, g_eq s0 s1 x1 x3 f hf]

include hf in
/-- The gradient of the logits. -/
theorem dlBlock_apply (l : Fin 256) (e : Fin 128) :
    dlBlock s0 s1 x1 x3 (ix2 l e)
      = prob (z s0 x1 x3 l) e * (Ideal.ofBits .f32 0x3A23D70A#32 * (f e - ∑ e', prob (z s0 x1 x3 l) e' * f e')
        + Ideal.ofBits .f32 0x3583126F#32 * lse (z s0 x1 x3 l)) := by
  unfold dlBlock
  rw [ld_full s1 _ (by decide)]
  pointwise [k0_pay84, prob_eq, g_eq s0 s1 x1 x3 f hf, lse_eq, freq2_eq s1 f hf]

/-- The running sum of probabilities. -/
theorem psumNext_apply (s2 : Vec Ideal S128x256 .f32) (e : Fin 128) (l : Fin 256) :
    psumNext s0 x1 x3 s2 (ix2 e l) = s2 (ix2 e l) + prob (z s0 x1 x3 l) e := by
  unfold psumNext
  pointwise [k0_pay1, prob_eq]

theorem psum_zero (e : Fin 128) (l : Fin 256) : k0_pay72 (F := Ideal) (ix2 e l) = 0 := by
  pointwise [k0_pay72]

/-- The mean of the running sum. -/
theorem meanP_apply (s2 : Vec Ideal S128x256 .f32) (u : Fin 1) (e : Fin 128) :
    meanP s2 (ix2 u e) = Ideal.div (∑ l, s2 (ix2 e l)) (Ideal.ofBits .f32 0x45000000#32) := by
  rw [← div_2048]
  unfold meanP
  pointwise [k0_pay2]

/-! ## The histogram -/

theorem hit_apply (r : Vec Ideal S1x1x128 .i32) (e l : Fin 128) : hit r (ix2 e l) = same (r (ix3 0 0 l)) (BitVec.ofNat 32 e.val) := by
  pointwise [hit]
  unfold same
  show (if BitVec.ofBool (_ == _) = 1 then _ else _) = _
  by_cases h : r (ix3 0 0 l) = BitVec.ofNat 32 e.val
  · rw [if_pos h, h]; simp
  · rw [if_neg h, beq_false_of_ne h, if_neg (by simp)]

/-- The id that visit `n` finds in lane `l`. -/
def visit (x0 : Vec Ideal S2x8x1024 .i32) (l : Fin 128) (n : ℕ) : BitVec 32 :=
  x0 (ix3 ⟨n / 64 % 2, by omega⟩ ⟨n / 8 % 8, by omega⟩ ⟨n % 8 * 128 + l.val, by omega⟩)

/-- The histogram after `n` visits. -/
theorem hist_apply (x0 : Vec Ideal S2x8x1024 .i32) (e l : Fin 128) (n : ℕ) :
    hist x0 n (ix2 e l) = ∑ i ∈ Finset.range n, same (visit x0 l i) (BitVec.ofNat 32 e.val) := by
  induction n with
  | zero => unfold hist; pointwise; rfl
  | succ n ih =>
    rw [Finset.sum_range_succ, ← ih]
    have h : View.ld x0 (Rect.unit (s := S2x8x1024) (histOff n) S1x1x128.size (histOff_inb n)) (ix3 0 0 l) = visit x0 l n := by
      unfold visit
      refine congrArg x0 ?_
      funext a
      apply Fin.ext
      match a with
      | ⟨0, _⟩ => rfl
      | ⟨1, _⟩ => rfl
      | ⟨2, _⟩ => show n % 8 * 128 + 1 * l.val = n % 8 * 128 + l.val; omega
    show hist x0 n (ix2 e l) + hit _ (ix2 e l) = _
    rw [hit_apply, h]

theorem histSum_apply (x0 : Vec Ideal S2x8x1024 .i32) (e : Fin 128) (u : Fin 1) :
    histSum x0 (ix2 e u) = ∑ l, hist x0 128 (ix2 e l) := by
  unfold histSum
  pointwise

/-- The histogram, an id at a time. -/
theorem histSum_eq (x0 : Vec Ideal S2x8x1024 .i32) (e : Fin 128) (u : Fin 1) :
    histSum x0 (ix2 e u) = ∑ b : Fin 2, ∑ j : Fin 8, ∑ s : Fin 1024, same (x0 (ix3 b j s)) (BitVec.ofNat 32 e.val) := by
  rw [histSum_apply]
  have h1 (l : Fin 128) : hist x0 128 (ix2 e l) = ∑ b : Fin 2, ∑ j : Fin 8, ∑ c : Fin 8,
      same (x0 (ix3 b j ⟨c.val * 128 + l.val, by omega⟩)) (BitVec.ofNat 32 e.val) := by
    rw [hist_apply, ← Fin.sum_univ_eq_sum_range (fun i => same (visit x0 l i) (BitVec.ofNat 32 e.val)) 128]
    refine (sum_blocks 2 64 fun i => same (visit x0 l i.val) (BitVec.ofNat 32 e.val)).trans (Finset.sum_congr rfl fun b _ => ?_)
    refine (sum_blocks 8 8 fun i => same (visit x0 l (b.val * 64 + i.val)) (BitVec.ofNat 32 e.val)).trans
      (Finset.sum_congr rfl fun j _ => Finset.sum_congr rfl fun c _ => ?_)
    have hb := b.isLt; have hj := j.isLt; have hc := c.isLt
    refine congrArg (fun w => same w (BitVec.ofNat 32 e.val)) ?_
    unfold visit
    refine congrArg x0 ?_
    congr 1
    · apply Fin.ext; show (b.val * 64 + (j.val * 8 + c.val)) / 64 % 2 = b.val; omega
    · apply Fin.ext; show (b.val * 64 + (j.val * 8 + c.val)) / 8 % 8 = j.val; omega
    · apply Fin.ext; show (b.val * 64 + (j.val * 8 + c.val)) % 8 * 128 + l.val = c.val * 128 + l.val; omega
  rw [Finset.sum_congr rfl fun l _ => h1 l, Finset.sum_comm]
  refine Finset.sum_congr rfl fun b _ => ?_
  rw [Finset.sum_comm]
  refine Finset.sum_congr rfl fun j _ => ?_
  rw [Finset.sum_comm]
  exact (sum_blocks 8 128 fun s => same (x0 (ix3 b j s)) (BitVec.ofNat 32 e.val)).symm

/-- The frequencies: the histogram over the number of ids, in every column. -/
theorem freq_apply (x0 : Vec Ideal S2x8x1024 .i32) (e e' : Fin 128) :
    freq x0 (ix2 e e') = Ideal.div (∑ b : Fin 2, ∑ j : Fin 8, ∑ s : Fin 1024, same (x0 (ix3 b j s)) (BitVec.ofNat 32 e.val))
      (Ideal.ofBits .f32 0x46800000#32) := by
  unfold freq
  pointwise [k0_pay71, histSum_eq]

end Cert.KernelIdeal.Hand

end
-- ==== Proof.Cast.lean ====
module

public import Idealize.ShloMosaic.Lib.Pointwise
public import Idealize.ShloMosaic.Lib.ValueLayout

@[expose] public section

/-!
The reshapes of the arguments: a token's number is its batch times 1024 plus its place in the sequence, and a choice's number its
token's number times 8 plus its place among the token's eight choices.
-/

namespace Cert.Hand

open Idealize.ShloMosaic

/-- The batch and the place of token `n`. -/
abbrev bOf (n : Fin 2048) : Fin 2 := ⟨n.val / 1024, by omega⟩
abbrev sOf (n : Fin 2048) : Fin 1024 := ⟨n.val % 1024, by omega⟩

/-- The tokens as one list. -/
theorem tokens_cast {α : Type} (x : (⟨3, ![2, 1024, 16384]⟩ : Shape).Idx → α)
    (h : (⟨3, ![2, 1024, 16384]⟩ : Shape).ShapeCasts ⟨2, ![2048, 16384]⟩) (n : Fin 2048) (k : Fin 16384) :
    shapeCast ⟨2, ![2048, 16384]⟩ x h (ix2 n k) = x (ix3 (bOf n) (sOf n) k) :=
  shapeCast_apply x h _ _ (by
    rw [Shape.rowMajor_val_two, Shape.rowMajor_val_three]
    show (n.val / 1024 * 1024 + n.val % 1024) * 16384 + k.val = n.val * 16384 + k.val
    omega)

/-- The scales as one column. -/
theorem scales_cast {α : Type} (x : (⟨2, ![2, 1024]⟩ : Shape).Idx → α)
    (h : (⟨2, ![2, 1024]⟩ : Shape).ShapeCasts ⟨2, ![2048, 1]⟩) (n : Fin 2048) (u : Fin 1) :
    shapeCast ⟨2, ![2048, 1]⟩ x h (ix2 n u) = x (ix2 (bOf n) (sOf n)) :=
  shapeCast_apply x h _ _ (by
    rw [Shape.rowMajor_val_two, Shape.rowMajor_val_two]
    show n.val / 1024 * 1024 + n.val % 1024 = n.val * 1 + u.val
    omega)

/-- The choices as one column. -/
theorem ids_cast {α : Type} (x : (⟨3, ![2, 1024, 8]⟩ : Shape).Idx → α)
    (h : (⟨3, ![2, 1024, 8]⟩ : Shape).ShapeCasts ⟨2, ![16384, 1]⟩) (n : Fin 16384) (u : Fin 1) :
    shapeCast ⟨2, ![16384, 1]⟩ x h (ix2 n u)
      = x (ix3 (⟨n.val / 8192, by omega⟩ : Fin 2) (⟨n.val / 8 % 1024, by omega⟩ : Fin 1024) (⟨n.val % 8, by omega⟩ : Fin 8)) :=
  shapeCast_apply x h _ _ (by
    rw [Shape.rowMajor_val_two, Shape.rowMajor_val_three]
    show (n.val / 8192 * 1024 + n.val / 8 % 1024) * 8 + n.val % 8 = n.val * 1 + u.val
    omega)

end Cert.Hand

end
-- ==== Proof.Spec.lean ====
module

public import proofs.«01_k».proof.Proof.Cast
public import proofs.«01_k».proof.Proof.Sums
public import proofs.«01_k».proof.Proof.Softmax

@[expose] public section

/-!
The five results as functions of the four arguments: tokens, scales, router weights and chosen experts.
-/

noncomputable section

namespace Cert.Hand

open Idealize.ShloMosaic

variable (a0 : Vec Ideal ⟨3, ![2, 1024, 16384]⟩ .fp8e4m3) (a1 : Vec Ideal ⟨2, ![2, 1024]⟩ .f32)
  (a2 : Vec Ideal ⟨2, ![16384, 128]⟩ .bf16) (a3 : Vec Ideal ⟨3, ![2, 1024, 8]⟩ .i32)

/-- The logits of token `n`: its row times the weights, times its scale. -/
def logit (n : Fin 2048) (e : Fin 128) : EReal :=
  (∑ k : Fin 16384, a0 (ix3 (bOf n) (sOf n) k) * a2 (ix2 k e)) * a1 (ix2 (bOf n) (sOf n))

/-- The share of the choices that name expert `e`. -/
def share (e : Fin 128) : EReal :=
  Ideal.div (∑ b : Fin 2, ∑ s : Fin 1024, ∑ j : Fin 8, same (a3 (ix3 b s j)) (BitVec.ofNat 32 e.val)) (Ideal.ofBits .f32 0x46800000#32)

/-- Token `s` of batch `b`. -/
abbrev tokNum (b : Fin 2) (s : Fin 1024) : Fin 2048 := ⟨b.val * 1024 + s.val, by omega⟩

/-- The auxiliary loss of each token. -/
def specAux : Vec Ideal ⟨2, ![2, 1024]⟩ .f32 := fun i =>
  Ideal.ofBits .f32 0x3A23D70A#32 * ∑ e, prob (logit a0 a1 a2 (tokNum (i 0) (i 1))) e * share a3 e

/-- The z loss of each token. -/
def specZt : Vec Ideal ⟨2, ![2, 1024]⟩ .f32 := fun i =>
  Ideal.ofBits .f32 0x3503126F#32 * (lse (logit a0 a1 a2 (tokNum (i 0) (i 1))) * lse (logit a0 a1 a2 (tokNum (i 0) (i 1))))

/-- The mean probability of each expert. -/
def specMean : Vec Ideal ⟨2, ![1, 128]⟩ .f32 := fun i =>
  Ideal.div (∑ n, prob (logit a0 a1 a2 n) (i 1)) (Ideal.ofBits .f32 0x45000000#32)

/-- The logarithm of each token's sum of exponentials. -/
def specLse : Vec Ideal ⟨2, ![2, 1024]⟩ .f32 := fun i => lse (logit a0 a1 a2 (tokNum (i 0) (i 1)))

/-- The gradient of each token's logits. -/
def specDl : Vec Ideal ⟨2, ![2048, 128]⟩ .f32 := fun i =>
  prob (logit a0 a1 a2 (i 0)) (i 1)
    * (Ideal.ofBits .f32 0x3A23D70A#32 * (share a3 (i 1) - ∑ e', prob (logit a0 a1 a2 (i 0)) e' * share a3 e')
      + Ideal.ofBits .f32 0x3583126F#32 * lse (logit a0 a1 a2 (i 0)))

end Cert.Hand

end
-- ==== Proof.KernelValue.lean ====
module

public import proofs.«01_k».proof.Proof.Arrays
public import proofs.«01_k».proof.Proof.Block
public import proofs.«01_k».proof.Proof.Spec
public import Idealize.ShloMosaic.Lib.Claim

@[expose] public section

/-!
The kernel's five result arrays, over the extended reals, as functions of its arguments.
-/

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (RDat)

section Inputs

variable {F : FTy → Type} [FloatOps F]
variable (m : (ℓ : Loc nD τ sig) → Buf (Elt F) ℓ)

/-! ## What the points read, from the arguments -/

theorem index3 : ∀ t : Fin cfg0.N, win0_3.index t 0 * 256 = t.val * 256 ∧ win0_3.index t 1 * 16384 = 0 := by decide

/-- Point `t`'s block of tokens: 256 consecutive ones. -/
theorem blk3_emb (t : Fin cfg0.N) (l : Fin 256) (k : Fin 16384) :
    ((cfg0.win 3).blk t).view.emb (ix2 l k) = (ix2 (tokOf t.val l) k : S2048x16384.Idx) := by
  have h8 := lt8 t
  refine funext fun a => Fin.ext ?_
  match a with
  | ⟨0, _⟩ =>
    show win0_3.index t 0 * 256 + 1 * l.val = t.val % 8 * 256 + l.val
    rw [(index3 t).1]; omega
  | ⟨1, _⟩ =>
    show win0_3.index t 1 * 16384 + 1 * k.val = k.val
    rw [(index3 t).2]; omega

theorem tokens_apply (c : Dev nD) (t : Fin cfg0.N) (l : Fin 256) (k : Fin 16384) :
    iblk m c 3 t (ix2 l k)
      = m ((c : Thread nD τ).loc main_arg0) (ix3 (bOf (tokOf t.val l)) (sOf (tokOf t.val l)) k : S2x1024x16384.Idx) := by
  unfold iblk
  entry_read
  show shapeCast S2048x16384 _ _ (((cfg0.win 3).blk t).view.emb (ix2 l k)) = _
  rw [blk3_emb]
  exact tokens_cast _ _ _ _

theorem ids_apply (c : Dev nD) (t : Fin cfg0.N) (b : Fin 2) (j : Fin 8) (s : Fin 1024) :
    iblk m c 0 t (ix3 b j s) = m ((c : Thread nD τ).loc main_arg3) (ix3 b s j : S2x1024x8.Idx) := by
  unfold iblk
  entry_read
  refine congrArg (m ((c : Thread nD τ).loc main_arg3)) (funext fun a => Fin.ext ?_)
  match a with
  | ⟨0, _⟩ => show 0 + 1 * b.val = b.val; omega
  | ⟨1, _⟩ => show 0 + 1 * s.val = s.val; omega
  | ⟨2, _⟩ => show 0 + 1 * j.val = j.val; omega

theorem scales_apply (c : Dev nD) (t : Fin cfg0.N) (b : Fin 2) (s : Fin 1024) :
    iblk m c 1 t (ix2 b s) = m ((c : Thread nD τ).loc main_arg1) (ix2 b s : S2x1024.Idx) := by
  unfold iblk
  entry_read
  refine congrArg (m ((c : Thread nD τ).loc main_arg1)) (funext fun a => Fin.ext ?_)
  match a with
  | ⟨0, _⟩ => show 0 + 1 * b.val = b.val; omega
  | ⟨1, _⟩ => show 0 + 1 * s.val = s.val; omega

theorem index2 : ∀ t : Fin cfg0.N, win0_2.index t 0 * 16384 = 0 ∧ win0_2.index t 1 * 128 = 0 := by decide

theorem weights_apply (c : Dev nD) (t : Fin cfg0.N) (k : Fin 16384) (e : Fin 128) :
    iblk m c 2 t (ix2 k e) = m ((c : Thread nD τ).loc main_arg2) (ix2 k e : S16384x128.Idx) := by
  unfold iblk
  entry_read
  refine congrArg (m ((c : Thread nD τ).loc main_arg2)) (funext fun a => Fin.ext ?_)
  match a with
  | ⟨0, _⟩ => show win0_2.index t 0 * 16384 + 1 * k.val = k.val; rw [(index2 t).1]; omega
  | ⟨1, _⟩ => show win0_2.index t 1 * 128 + 1 * e.val = e.val; rw [(index2 t).2]; omega

/-- The scale of token `l` of point `t`. -/
theorem scaleAt_apply (c : Dev nD) (t : Fin cfg0.N) (u : Fin 1) (l : Fin 256) :
    scaleAt m c t (ix2 u l)
      = m ((c : Thread nD τ).loc main_arg1) (ix2 (bOf (tokOf t.val l)) (sOf (tokOf t.val l)) : S2x1024.Idx) := by
  have h8 := lt8 t
  unfold scaleAt
  rw [blockRow_apply, scales_apply]
  refine congrArg (m ((c : Thread nD τ).loc main_arg1)) (funext fun a => Fin.ext ?_)
  match a with
  | ⟨0, _⟩ => show t.val / 4 % 2 = (t.val % 8 * 256 + l.val) / 1024; omega
  | ⟨1, _⟩ => show t.val % 4 * 256 + l.val = (t.val % 8 * 256 + l.val) % 1024; omega

end Inputs

/-! ## Over the extended reals -/

variable (m : (ℓ : Loc nD τ sig) → Buf (Elt Ideal) ℓ)

/-- The arguments. -/
abbrev A0 (c : Dev nD) : Vec Ideal S2x1024x16384 .fp8e4m3 := m ((c : Thread nD τ).loc main_arg0)
abbrev A1 (c : Dev nD) : Vec Ideal S2x1024 .f32 := m ((c : Thread nD τ).loc main_arg1)
abbrev A2 (c : Dev nD) : Vec Ideal S16384x128 .bf16 := m ((c : Thread nD τ).loc main_arg2)
abbrev A3 (c : Dev nD) : Vec Ideal S2x1024x8 .i32 := m ((c : Thread nD τ).loc main_arg3)

/-- The transposed weights. -/
theorem wtAt_apply (c : Dev nD) (e : Fin 128) (k : Fin 16384) : wtAt m c (ix2 e k) = A2 m c (ix2 k e) := by
  have h : wtAt m c (ix2 e k) = iblk m c 2 (pt 0) (ix2 k e) := by
    unfold wtAt wt
    pointwise
  rw [h]; exact weights_apply m c _ k e

/-- The logits of the tokens of point `t`. -/
theorem z_eq (c : Dev nD) (t : Fin cfg0.N) (l : Fin 256) :
    z (wtAt m c) (scaleAt m c t) (iblk m c 3 t) l = logit (A0 m c) (A1 m c) (A2 m c) (tokOf t.val l) := by
  funext e
  unfold z logit
  rw [scaleAt_apply]
  have hk (k : Fin 16384) : wtAt m c (ix2 e k) * (iblk m c 3 t (ix2 l k) : EReal)
      = A0 m c (ix3 (bOf (tokOf t.val l)) (sOf (tokOf t.val l)) k) * A2 m c (ix2 k e) := by
    rw [wtAt_apply, tokens_apply, mul_comm]
  simp only [hk]

/-- The shares of the experts. -/
theorem freqAt_apply (c : Dev nD) (e e' : Fin 128) : freqAt m c (ix2 e e') = share (A3 m c) e := by
  unfold freqAt share
  rw [freq_apply]
  refine congrArg (Ideal.div · _) (Finset.sum_congr rfl fun b _ => ?_)
  rw [Finset.sum_comm]
  exact Finset.sum_congr rfl fun s _ => Finset.sum_congr rfl fun j _ => by rw [ids_apply]

/-- The point and the place in it of token `s` of batch `b`. -/
theorem tok_split (b : Fin 2) (s : Fin 1024) :
    tokOf (b.val * 4 + s.val / 256) ⟨s.val % 256, by omega⟩ = tokNum b s := by
  apply Fin.ext
  show (b.val * 4 + s.val / 256) % 8 * 256 + s.val % 256 = b.val * 1024 + s.val
  omega

/-- An array whose entries are stored point by point is known once each point's entries are. -/
theorem rows_eq (v : Fin cfg0.N → Vec Ideal S1x256 .f32) (G : Vec Ideal S2x1024 .f32) (h : Rows v 8 G) (g : Fin 2048 → EReal)
    (hv : ∀ t l, v t (ix2 0 l) = g (tokOf t.val l)) (b : Fin 2) (s : Fin 1024) : G (ix2 b s) = g (tokNum b s) := by
  have hN : cfg0.N = 8 := N_0
  have ht : b.val * 4 + s.val / 256 < 8 := by omega
  have := h ⟨b.val * 4 + s.val / 256, by omega⟩ ht ⟨s.val % 256, by omega⟩
  rw [hv] at this
  rw [← tok_split b s, ← this]
  refine congrArg G (funext fun a => Fin.ext ?_)
  match a with
  | ⟨0, _⟩ => show b.val = (b.val * 4 + s.val / 256) / 4 % 2; omega
  | ⟨1, _⟩ => show s.val = (b.val * 4 + s.val / 256) % 4 * 256 + s.val % 256; omega

theorem aux_value (c : Dev nD) (G : Vec Ideal S2x1024 .f32) (h : (rdat m c).ArrAt 4 cfg0.N G) :
    G = specAux (A0 m c) (A1 m c) (A2 m c) (A3 m c) := by
  funext i
  rw [eq_ix2 (n0 := 2) (n1 := 1024) i]
  refine rows_eq _ G (aux_rows m c G h) (fun n => Ideal.ofBits .f32 0x3A23D70A#32
    * ∑ e, prob (logit (A0 m c) (A1 m c) (A2 m c) n) e * share (A3 m c) e) (fun t l => ?_) (i 0) (i 1)
  show auxAt m c t (ix2 0 l) = _
  unfold auxAt
  rw [auxRow_apply _ _ _ _ (share (A3 m c)) (freqAt_apply m c), z_eq]

theorem zt_value (c : Dev nD) (G : Vec Ideal S2x1024 .f32) (h : (rdat m c).ArrAt 5 cfg0.N G) :
    G = specZt (A0 m c) (A1 m c) (A2 m c) := by
  funext i
  rw [eq_ix2 (n0 := 2) (n1 := 1024) i]
  refine rows_eq _ G (zt_rows m c G h) (fun n => Ideal.ofBits .f32 0x3503126F#32
    * (lse (logit (A0 m c) (A1 m c) (A2 m c) n) * lse (logit (A0 m c) (A1 m c) (A2 m c) n))) (fun t l => ?_) (i 0) (i 1)
  show ztAt m c t (ix2 0 l) = _
  unfold ztAt
  rw [ztRow_apply, z_eq]

theorem lse_value (c : Dev nD) (G : Vec Ideal S2x1024 .f32) (h : (rdat m c).ArrAt 7 cfg0.N G) :
    G = specLse (A0 m c) (A1 m c) (A2 m c) := by
  funext i
  rw [eq_ix2 (n0 := 2) (n1 := 1024) i]
  refine rows_eq _ G (lse_rows m c G h) (fun n => lse (logit (A0 m c) (A1 m c) (A2 m c) n)) (fun t l => ?_) (i 0) (i 1)
  show lseAt m c t (ix2 0 l) = _
  unfold lseAt
  rw [lseRow_apply, z_eq]

theorem dl_at (c : Dev nD) (G : Vec Ideal S2048x128 .f32) (h : (rdat m c).ArrAt 8 cfg0.N G) (n : Fin 2048) (e : Fin 128) :
    G (ix2 n e) = specDl (A0 m c) (A1 m c) (A2 m c) (A3 m c) (ix2 n e) := by
  have hN : cfg0.N = 8 := N_0
  have hd : n.val / 256 < cfg0.N := by omega
  have ht : tokOf (n.val / 256) ⟨n.val % 256, by omega⟩ = n := by
    apply Fin.ext
    show n.val / 256 % 8 * 256 + n.val % 256 = n.val
    omega
  have h1 := dl_upto m c cfg0.N le_rfl G h ⟨n.val / 256, hd⟩ hd ⟨n.val % 256, by omega⟩ e
  rw [show tokOf (⟨n.val / 256, hd⟩ : Fin cfg0.N).val ⟨n.val % 256, by omega⟩ = n from ht] at h1
  rw [h1]
  unfold dlAt
  rw [dlBlock_apply _ _ _ _ (share (A3 m c)) (freqAt_apply m c), z_eq,
    show tokOf (⟨n.val / 256, hd⟩ : Fin cfg0.N).val ⟨n.val % 256, by omega⟩ = n from ht]
  rfl

theorem dl_value (c : Dev nD) (G : Vec Ideal S2048x128 .f32) (h : (rdat m c).ArrAt 8 cfg0.N G) :
    G = specDl (A0 m c) (A1 m c) (A2 m c) (A3 m c) := by
  funext i
  rw [eq_ix2 (n0 := 2048) (n1 := 128) i]
  exact dl_at m c G h (i 0) (i 1)

/-- The running sum before point `n`. -/
theorem psumAt_apply (c : Dev nD) (e : Fin 128) (l : Fin 256) (n : ℕ) :
    psumAt m c n (ix2 e l) = ∑ t ∈ Finset.range n, prob (logit (A0 m c) (A1 m c) (A2 m c) (tokOf t l)) e := by
  induction n with
  | zero => exact psum_zero e l
  | succ n ih =>
    rw [Finset.sum_range_succ, ← ih]
    show psumNext (wtAt m c) (scaleAt m c (pt n)) (iblk m c 3 (pt n)) (psumAt m c n) (ix2 e l) = _
    rw [psumNext_apply, z_eq]
    have : tokOf (pt n).val l = tokOf n l := by
      apply Fin.ext
      show n % 8 % 8 * 256 + l.val = n % 8 * 256 + l.val
      omega
    rw [this]

/-- A sum over the tokens, a point at a time. -/
theorem sum_tokens (g : Fin 2048 → EReal) : ∑ n, g n = ∑ t : Fin 8, ∑ l : Fin 256, g (tokOf t.val l) := by
  rw [sum_blocks 8 256 g]
  refine Finset.sum_congr rfl fun t _ => Finset.sum_congr rfl fun l _ => congrArg g (Fin.ext ?_)
  show t.val * 256 + l.val = t.val % 8 * 256 + l.val
  omega

theorem mean_at (c : Dev nD) (u : Fin 1) (e : Fin 128) :
    meanP (psumAt m c 8) (ix2 u e) = specMean (A0 m c) (A1 m c) (A2 m c) (ix2 u e) := by
  have hl (l : Fin 256) : psumAt m c 8 (ix2 e l) = ∑ t : Fin 8, prob (logit (A0 m c) (A1 m c) (A2 m c) (tokOf t.val l)) e :=
    (psumAt_apply m c e l 8).trans
      (Fin.sum_univ_eq_sum_range (fun t => prob (logit (A0 m c) (A1 m c) (A2 m c) (tokOf t l)) e) 8).symm
  have hs : ∑ l, psumAt m c 8 (ix2 e l) = ∑ n, prob (logit (A0 m c) (A1 m c) (A2 m c) n) e := by
    rw [sum_tokens fun n => prob (logit (A0 m c) (A1 m c) (A2 m c) n) e, Finset.sum_comm]
    exact Finset.sum_congr rfl fun l _ => hl l
  rw [meanP_apply, hs]
  rfl

theorem mean_value (c : Dev nD) (G : Vec Ideal S1x128 .f32) (h : (rdat m c).ArrAt 6 cfg0.N G) :
    G = specMean (A0 m c) (A1 m c) (A2 m c) := by
  rw [mean_arr m c G h]
  funext i
  rw [eq_ix2 (n0 := 1) (n1 := 128) i]
  exact mean_at m c (i 0) (i 1)

/-- Every run ends with the five results at their values, and with the arguments unchanged. -/
theorem run (ρ : Dev nD → PrngReg) :
    θ_run (defs (F := Ideal)) (onTc (τ := τ) (main (F := Ideal))) ⟨m, fun _ => 0, ρ⟩ (fun r => ∀ c : Dev nD,
          r.2.mem ((c.tc : Thread nD τ).loc main_v2_0) = specAux (A0 m c) (A1 m c) (A2 m c) (A3 m c)
          ∧ r.2.mem ((c.tc : Thread nD τ).loc main_v2_1) = specZt (A0 m c) (A1 m c) (A2 m c)
          ∧ r.2.mem ((c.tc : Thread nD τ).loc main_v2_2) = specMean (A0 m c) (A1 m c) (A2 m c)
          ∧ r.2.mem ((c.tc : Thread nD τ).loc main_v2_3) = specLse (A0 m c) (A1 m c) (A2 m c)
          ∧ r.2.mem ((c.tc : Thread nD τ).loc main_v2_4) = specDl (A0 m c) (A1 m c) (A2 m c) (A3 m c)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)) :=
  (θ_run defs _ _).mono (fun _ h c => ⟨aux_value m c _ ((h.1 c).1 4), zt_value m c _ ((h.1 c).1 5), mean_value m c _ ((h.1 c).1 6),
    lse_value m c _ ((h.1 c).1 7), dl_value m c _ ((h.1 c).1 8), args_kept h.1 c⟩) (run_main m ρ)

end Cert.KernelIdeal.Hand

end
-- ==== Proof.Ref.lean ====
module

public import proofs.«01_k».proof.Proof.Gen.ReferenceIdeal.Frame
public import proofs.«01_k».proof.Proof.Softmax

@[expose] public section

/-!
What the reference's body computes, from the blocks that it reads: ids (a column), scales (a column), weights and tokens.
-/

set_option maxRecDepth 16384

noncomputable section

namespace Cert.ReferenceIdeal.Hand

open Cert.ReferenceIdeal Cert.ReferenceIdeal.Gen Cert.Hand
open Idealize.ShloMosaic

variable (x0 : Vec Ideal S16384x1 .i32) (x1 : Vec Ideal S2048x1 .f32) (x2 : Vec Ideal S16384x128 .bf16) (x3 : Vec Ideal S2048x16384 .fp8e4m3)

/-- The logits of token `n`. -/
def z (n : Fin 2048) (e : Fin 128) : EReal := (∑ k : Fin 16384, x3 (ix2 n k) * x2 (ix2 k e)) * x1 (ix2 n 0)

/-- The share of the ids that name expert `e`, as the body computes it. -/
def f (e : Fin 128) : EReal := k0_pay1 x0 (ix2 0 e)

theorem logits (n : Fin 2048) (e : Fin 128) : k0_pay2 x3 x2 x1 (ix2 n e) = z x1 x2 x3 n e := by
  pointwise [k0_pay2, z]

theorem finite (n : Fin 2048) (u : Fin 1) : k0_pay3 x3 x2 x1 (ix2 n u) = guard (z x1 x2 x3 n) := by
  pointwise [k0_pay3, logits, ofBits_neg_inf]
  rfl

theorem lse_raw (n : Fin 2048) (u : Fin 1) : k0_pay4 x3 x2 x1 (ix2 n u)
    = Ideal.log (max (∑ e, Ideal.exp (z x1 x2 x3 n e - Scalar.select (guard (z x1 x2 x3 n)) (top (z x1 x2 x3 n)) 0))
        (-∑ e, Ideal.exp (z x1 x2 x3 n e - Scalar.select (guard (z x1 x2 x3 n)) (top (z x1 x2 x3 n)) 0)))
      + Scalar.select (guard (z x1 x2 x3 n)) (top (z x1 x2 x3 n)) 0 := by
  have h : Finset.univ.fold max ⊥ (fun e => z x1 x2 x3 n e) = top (z x1 x2 x3 n) := rfl
  pointwise [k0_pay4, logits, ofBits_neg_inf]
  rw [h, max_top]
  rfl

/-- The logarithm of the sum of exponentials of token `n`. -/
theorem lse_eq (n : Fin 2048) (u : Fin 1) :
    k0_pay6 (k0_pay3 x3 x2 x1) (k0_pay4 x3 x2 x1) (k0_pay5 (F := Ideal)) (ix2 n u) = lse (z x1 x2 x3 n) := by
  pointwise [k0_pay6, k0_pay5, finite, lse_raw, ofBits_neg_inf]
  exact guarded_lse _

/-- The probability of expert `e` for token `n`. -/
theorem prob_eq (n : Fin 2048) (e : Fin 128) :
    k0_pay7 (k0_pay2 x3 x2 x1) (k0_pay3 x3 x2 x1) (k0_pay4 x3 x2 x1) (k0_pay5 (F := Ideal)) (ix2 n e) = prob (z x1 x2 x3 n) e := by
  pointwise [k0_pay7, finite, lse_eq, logits]
  exact guarded_prob _ e

/-- The sum over the experts of probability times frequency. -/
theorem g_eq (n : Fin 2048) (u : Fin 1) :
    k0_pay8 (k0_pay1 x0) (k0_pay2 x3 x2 x1) (k0_pay3 x3 x2 x1) (k0_pay4 x3 x2 x1) (k0_pay5 (F := Ideal)) (ix2 n u)
      = ∑ e, prob (z x1 x2 x3 n) e * f x0 e := by
  pointwise [k0_pay8, prob_eq, f]

/-- The place of token `n` of row `b` among all tokens. -/
abbrev tok (b : Fin 2) (s : Fin 1024) : Fin 2048 := ⟨b.val * 1024 + s.val, by omega⟩

/-- The auxiliary loss. -/
theorem aux_eq (b : Fin 2) (s : Fin 1024) :
    k0_pay10 (k0_pay1 x0) (k0_pay2 x3 x2 x1) (k0_pay3 x3 x2 x1) (k0_pay4 x3 x2 x1) (k0_pay5 (F := Ideal)) (ix2 b s)
      = Ideal.ofBits .f32 0x3A23D70A#32 * ∑ e, prob (z x1 x2 x3 (tok b s)) e * f x0 e := by
  pointwise [k0_pay10, g_eq]

/-- The z loss. -/
theorem zt_eq (b : Fin 2) (s : Fin 1024) :
    k0_pay11 (k0_pay3 x3 x2 x1) (k0_pay4 x3 x2 x1) (k0_pay5 (F := Ideal)) (ix2 b s)
      = Ideal.ofBits .f32 0x3503126F#32 * (lse (z x1 x2 x3 (tok b s)) * lse (z x1 x2 x3 (tok b s))) := by
  pointwise [k0_pay11, lse_eq]

/-- The mean probabilities. -/
theorem mean_eq (u : Fin 1) (e : Fin 128) :
    k0_pay9 (k0_pay2 x3 x2 x1) (k0_pay3 x3 x2 x1) (k0_pay4 x3 x2 x1) (k0_pay5 (F := Ideal)) (ix2 u e)
      = Ideal.div (∑ n, prob (z x1 x2 x3 n) e) (Ideal.ofBits .f32 0x45000000#32) := by
  pointwise [k0_pay9, prob_eq]

/-- The logarithm of the sum of exponentials, a token per place of a [2,1024] array. -/
theorem lse2_eq (b : Fin 2) (s : Fin 1024) :
    k0_pay13 (k0_pay3 x3 x2 x1) (k0_pay4 x3 x2 x1) (k0_pay5 (F := Ideal)) (ix2 b s) = lse (z x1 x2 x3 (tok b s)) := by
  pointwise [k0_pay13, lse_eq]

/-- The gradient of the logits. -/
theorem dl_eq (n : Fin 2048) (e : Fin 128) :
    k0_pay12 (k0_pay1 x0) (k0_pay2 x3 x2 x1) (k0_pay3 x3 x2 x1) (k0_pay4 x3 x2 x1) (k0_pay5 (F := Ideal)) (ix2 n e)
      = prob (z x1 x2 x3 n) e * (Ideal.ofBits .f32 0x3A23D70A#32 * (f x0 e - ∑ e', prob (z x1 x2 x3 n) e' * f x0 e')
        + Ideal.ofBits .f32 0x3583126F#32 * lse (z x1 x2 x3 n)) := by
  pointwise [k0_pay12, prob_eq, g_eq, lse_eq, f]

end Cert.ReferenceIdeal.Hand

end
-- ==== Proof.RefValue.lean ====
module

public import proofs.«01_k».proof.Proof.Ref
public import proofs.«01_k».proof.Proof.Reads
public import proofs.«01_k».proof.Proof.Spec
public import Idealize.ShloMosaic.Lib.Claim

@[expose] public section

/-!
The reference's five result arrays, over the extended reals, as functions of its arguments.
-/

set_option maxRecDepth 16384

noncomputable section

namespace Cert.ReferenceIdeal.Hand

open Cert.ReferenceIdeal Cert.ReferenceIdeal.Gen Cert.Hand
open Idealize.ShloMosaic Idealize.ShloMosaic.TcCoe Idealize.SL.Sem
open Idealize.ShloMosaic.Pipeline (Dat)

section Arrays

variable {F : FTy → Type} [FloatOps F]
variable (m : (ℓ : Loc nD τ sig) → Buf (Elt F) ℓ)

/-- The one point. -/
abbrev pt0 : Fin cfg0.N := ⟨0, by rw [show cfg0.N = 1 from rfl]; omega⟩

/-- A rectangle that is the whole shape leaves every index in place. -/
theorem canon_full {s : Shape} {e : EltTy} (off : Fin s.rank → ℕ) (h0 : ∀ a, off a = 0) (inb) (X : Vec F s e) :
    View.canon (Val := Elt F) [⟨Rect.unit (s := s) off s.size inb, X⟩] = X := by
  funext x
  have hx : (Rect.unit (s := s) off s.size inb).emb x = x := emb_full off h0 inb x
  conv_lhs => rw [← hx]
  exact View.canon_cons_emb _ _ _ _

/-! ## Window 4 -/

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => absurd (Fin.ext (by have := t.isLt; have := t'.isLt; have hN : cfg0.N = 1 := rfl; omega)) hne

theorem whole4 (t : Fin cfg0.N) (X : Vec F S2x1024 .f32) : ((cfg0.win 4).blk t).view.read (Elt F) X = X := by
  funext x
  refine congrArg X (funext fun a => Fin.ext ?_)
  match a with
  | ⟨0, _⟩ => show 0 + 1 * (x 0).val = (x 0).val; omega
  | ⟨1, _⟩ => show 0 + 1 * (x 1).val = (x 1).val; omega

/-- The array after the run is what the body stored. -/
theorem arr4 (c : Dev nD) : (dats m 0 c).arrAt 4 cfg0.N = out0_4 (iblk m c 0 pt0) (iblk m c 1 pt0) (iblk m c 2 pt0) (iblk m c 3 pt0) := by
  have h := (dats m 0 c).read_blk_arrAt_eq_flushed 4 disjoint4 cfg0.N pt0 pt0.isLt rfl
  rw [← whole4 pt0 ((dats m 0 c).arrAt 4 cfg0.N)]
  refine h.trans ?_
  show (cfg0.win 4).cut (grid0.coords pt0) ((dats m 0 c).after 4 pt0) = _
  rw [after0_4]
  rfl

/-! ## Window 5 -/

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => absurd (Fin.ext (by have := t.isLt; have := t'.isLt; have hN : cfg0.N = 1 := rfl; omega)) hne

theorem whole5 (t : Fin cfg0.N) (X : Vec F S2x1024 .f32) : ((cfg0.win 5).blk t).view.read (Elt F) X = X := by
  funext x
  refine congrArg X (funext fun a => Fin.ext ?_)
  match a with
  | ⟨0, _⟩ => show 0 + 1 * (x 0).val = (x 0).val; omega
  | ⟨1, _⟩ => show 0 + 1 * (x 1).val = (x 1).val; omega

/-- The array after the run is what the body stored. -/
theorem arr5 (c : Dev nD) : (dats m 0 c).arrAt 5 cfg0.N = out0_5 (iblk m c 0 pt0) (iblk m c 1 pt0) (iblk m c 2 pt0) (iblk m c 3 pt0) := by
  have h := (dats m 0 c).read_blk_arrAt_eq_flushed 5 disjoint5 cfg0.N pt0 pt0.isLt rfl
  rw [← whole5 pt0 ((dats m 0 c).arrAt 5 cfg0.N)]
  refine h.trans ?_
  show (cfg0.win 5).cut (grid0.coords pt0) ((dats m 0 c).after 5 pt0) = _
  rw [after0_5]
  rfl

/-! ## Window 6 -/

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => absurd (Fin.ext (by have := t.isLt; have := t'.isLt; have hN : cfg0.N = 1 := rfl; omega)) hne

theorem whole6 (t : Fin cfg0.N) (X : Vec F S1x128 .f32) : ((cfg0.win 6).blk t).view.read (Elt F) X = X := by
  funext x
  refine congrArg X (funext fun a => Fin.ext ?_)
  match a with
  | ⟨0, _⟩ => show 0 + 1 * (x 0).val = (x 0).val; omega
  | ⟨1, _⟩ => show 0 + 1 * (x 1).val = (x 1).val; omega

/-- The array after the run is what the body stored. -/
theorem arr6 (c : Dev nD) : (dats m 0 c).arrAt 6 cfg0.N = out0_6 (iblk m c 0 pt0) (iblk m c 1 pt0) (iblk m c 2 pt0) (iblk m c 3 pt0) := by
  have h := (dats m 0 c).read_blk_arrAt_eq_flushed 6 disjoint6 cfg0.N pt0 pt0.isLt rfl
  rw [← whole6 pt0 ((dats m 0 c).arrAt 6 cfg0.N)]
  refine h.trans ?_
  show (cfg0.win 6).cut (grid0.coords pt0) ((dats m 0 c).after 6 pt0) = _
  rw [after0_6]
  rfl

/-! ## Window 7 -/

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => absurd (Fin.ext (by have := t.isLt; have := t'.isLt; have hN : cfg0.N = 1 := rfl; omega)) hne

theorem whole7 (t : Fin cfg0.N) (X : Vec F S2x1024 .f32) : ((cfg0.win 7).blk t).view.read (Elt F) X = X := by
  funext x
  refine congrArg X (funext fun a => Fin.ext ?_)
  match a with
  | ⟨0, _⟩ => show 0 + 1 * (x 0).val = (x 0).val; omega
  | ⟨1, _⟩ => show 0 + 1 * (x 1).val = (x 1).val; omega

/-- The array after the run is what the body stored. -/
theorem arr7 (c : Dev nD) : (dats m 0 c).arrAt 7 cfg0.N = out0_7 (iblk m c 0 pt0) (iblk m c 1 pt0) (iblk m c 2 pt0) (iblk m c 3 pt0) := by
  have h := (dats m 0 c).read_blk_arrAt_eq_flushed 7 disjoint7 cfg0.N pt0 pt0.isLt rfl
  rw [← whole7 pt0 ((dats m 0 c).arrAt 7 cfg0.N)]
  refine h.trans ?_
  show (cfg0.win 7).cut (grid0.coords pt0) ((dats m 0 c).after 7 pt0) = _
  rw [after0_7]
  rfl

/-! ## Window 8 -/

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => absurd (Fin.ext (by have := t.isLt; have := t'.isLt; have hN : cfg0.N = 1 := rfl; omega)) hne

theorem whole8 (t : Fin cfg0.N) (X : Vec F S2048x128 .f32) : ((cfg0.win 8).blk t).view.read (Elt F) X = X := by
  funext x
  refine congrArg X (funext fun a => Fin.ext ?_)
  match a with
  | ⟨0, _⟩ => show 0 + 1 * (x 0).val = (x 0).val; omega
  | ⟨1, _⟩ => show 0 + 1 * (x 1).val = (x 1).val; omega

/-- The array after the run is what the body stored. -/
theorem arr8 (c : Dev nD) : (dats m 0 c).arrAt 8 cfg0.N = out0_8 (iblk m c 0 pt0) (iblk m c 1 pt0) (iblk m c 2 pt0) (iblk m c 3 pt0) := by
  have h := (dats m 0 c).read_blk_arrAt_eq_flushed 8 disjoint8 cfg0.N pt0 pt0.isLt rfl
  rw [← whole8 pt0 ((dats m 0 c).arrAt 8 cfg0.N)]
  refine h.trans ?_
  show (cfg0.win 8).cut (grid0.coords pt0) ((dats m 0 c).after 8 pt0) = _
  rw [after0_8]
  rfl

/-! ## What the body reads, from the arguments -/

theorem index0 : ∀ t : Fin cfg0.N, win0_0.index t 0 * 16384 = 0 ∧ win0_0.index t 1 * 1 = 0 := by decide
theorem index1 : ∀ t : Fin cfg0.N, win0_1.index t 0 * 2048 = 0 ∧ win0_1.index t 1 * 1 = 0 := by decide
theorem index2 : ∀ t : Fin cfg0.N, win0_2.index t 0 * 16384 = 0 ∧ win0_2.index t 1 * 128 = 0 := by decide
theorem index3 : ∀ t : Fin cfg0.N, win0_3.index t 0 * 2048 = 0 ∧ win0_3.index t 1 * 16384 = 0 := by decide

theorem blk0_emb (t : Fin cfg0.N) (n : Fin 16384) (u : Fin 1) :
    ((cfg0.win 0).blk t).view.emb (ix2 n u) = (ix2 n u : S16384x1.Idx) := by
  refine funext fun a => Fin.ext ?_
  match a with
  | ⟨0, _⟩ => show win0_0.index t 0 * 16384 + 1 * n.val = n.val; rw [(index0 t).1]; omega
  | ⟨1, _⟩ => show win0_0.index t 1 * 1 + 1 * u.val = u.val; rw [(index0 t).2]; omega

theorem blk1_emb (t : Fin cfg0.N) (n : Fin 2048) (u : Fin 1) :
    ((cfg0.win 1).blk t).view.emb (ix2 n u) = (ix2 n u : S2048x1.Idx) := by
  refine funext fun a => Fin.ext ?_
  match a with
  | ⟨0, _⟩ => show win0_1.index t 0 * 2048 + 1 * n.val = n.val; rw [(index1 t).1]; omega
  | ⟨1, _⟩ => show win0_1.index t 1 * 1 + 1 * u.val = u.val; rw [(index1 t).2]; omega

theorem blk2_emb (t : Fin cfg0.N) (k : Fin 16384) (e : Fin 128) :
    ((cfg0.win 2).blk t).view.emb (ix2 k e) = (ix2 k e : S16384x128.Idx) := by
  refine funext fun a => Fin.ext ?_
  match a with
  | ⟨0, _⟩ => show win0_2.index t 0 * 16384 + 1 * k.val = k.val; rw [(index2 t).1]; omega
  | ⟨1, _⟩ => show win0_2.index t 1 * 128 + 1 * e.val = e.val; rw [(index2 t).2]; omega

theorem blk3_emb (t : Fin cfg0.N) (n : Fin 2048) (k : Fin 16384) :
    ((cfg0.win 3).blk t).view.emb (ix2 n k) = (ix2 n k : S2048x16384.Idx) := by
  refine funext fun a => Fin.ext ?_
  match a with
  | ⟨0, _⟩ => show win0_3.index t 0 * 2048 + 1 * n.val = n.val; rw [(index3 t).1]; omega
  | ⟨1, _⟩ => show win0_3.index t 1 * 16384 + 1 * k.val = k.val; rw [(index3 t).2]; omega

theorem tokens_apply (c : Dev nD) (n : Fin 2048) (k : Fin 16384) :
    iblk m c 3 pt0 (ix2 n k) = m ((c : Thread nD τ).loc main_arg0) (ix3 (bOf n) (sOf n) k : S2x1024x16384.Idx) := by
  unfold iblk
  entry_read
  show shapeCast S2048x16384 _ _ (((cfg0.win 3).blk pt0).view.emb (ix2 n k)) = _
  rw [blk3_emb]
  exact tokens_cast _ _ _ _

theorem scales_apply (c : Dev nD) (n : Fin 2048) (u : Fin 1) :
    iblk m c 1 pt0 (ix2 n u) = m ((c : Thread nD τ).loc main_arg1) (ix2 (bOf n) (sOf n) : S2x1024.Idx) := by
  unfold iblk
  entry_read
  show shapeCast S2048x1 _ _ (((cfg0.win 1).blk pt0).view.emb (ix2 n u)) = _
  rw [blk1_emb]
  exact scales_cast _ _ _ _

theorem weights_apply (c : Dev nD) (k : Fin 16384) (e : Fin 128) :
    iblk m c 2 pt0 (ix2 k e) = m ((c : Thread nD τ).loc main_arg2) (ix2 k e : S16384x128.Idx) := by
  unfold iblk
  entry_read
  exact congrArg (m ((c : Thread nD τ).loc main_arg2)) (blk2_emb pt0 k e)

theorem ids_apply (c : Dev nD) (n : Fin 16384) (u : Fin 1) :
    iblk m c 0 pt0 (ix2 n u) = m ((c : Thread nD τ).loc main_arg3)
      (ix3 (⟨n.val / 8192, by omega⟩ : Fin 2) (⟨n.val / 8 % 1024, by omega⟩ : Fin 1024) (⟨n.val % 8, by omega⟩ : Fin 8) : S2x1024x8.Idx) := by
  unfold iblk
  entry_read
  show shapeCast S16384x1 _ _ (((cfg0.win 0).blk pt0).view.emb (ix2 n u)) = _
  rw [blk0_emb]
  exact ids_cast _ _ _ _

/-! ## The values that the body names, of whole blocks -/

variable (x0 : Vec F S16384x1 .i32) (x1 : Vec F S2048x1 .f32) (x2 : Vec F S16384x128 .bf16) (x3 : Vec F S2048x16384 .fp8e4m3)

theorem ld0 : View.ld x0 r0_0 = x0 := by refine ld_full x0 _ ?_ _; decide
theorem ld1 : View.ld x1 r0_3 = x1 := by refine ld_full x1 _ ?_ _; decide
theorem ld2 : View.ld x2 r0_2 = x2 := by refine ld_full x2 _ ?_ _; decide
theorem ld3 : View.ld x3 r0_1 = x3 := by refine ld_full x3 _ ?_ _; decide

theorem pay14_eq : k0_pay14 x0 x1 x2 x3 = k0_pay1 x0 := by unfold k0_pay14; rw [ld0]
theorem pay15_eq : k0_pay15 x0 x1 x2 x3 = k0_pay2 x3 x2 x1 := by unfold k0_pay15; rw [ld1, ld2, ld3]
theorem pay16_eq : k0_pay16 x0 x1 x2 x3 = k0_pay3 x3 x2 x1 := by unfold k0_pay16; rw [ld1, ld2, ld3]
theorem pay17_eq : k0_pay17 x0 x1 x2 x3 = k0_pay4 x3 x2 x1 := by unfold k0_pay17; rw [ld1, ld2, ld3]
theorem pay18_eq : k0_pay18 x0 x1 x2 x3 = k0_pay5 (F := F) := by unfold k0_pay18; rfl

theorem out4_eq : out0_4 x0 x1 x2 x3
    = k0_pay10 (k0_pay1 x0) (k0_pay2 x3 x2 x1) (k0_pay3 x3 x2 x1) (k0_pay4 x3 x2 x1) (k0_pay5 (F := F)) := by
  unfold out0_4
  rw [pay14_eq, pay15_eq, pay16_eq, pay17_eq, pay18_eq]
  refine canon_full _ ?_ _ _
  decide

theorem out5_eq : out0_5 x0 x1 x2 x3 = k0_pay11 (k0_pay3 x3 x2 x1) (k0_pay4 x3 x2 x1) (k0_pay5 (F := F)) := by
  unfold out0_5
  rw [pay16_eq, pay17_eq, pay18_eq]
  refine canon_full _ ?_ _ _
  decide

theorem out6_eq : out0_6 x0 x1 x2 x3
    = k0_pay9 (k0_pay2 x3 x2 x1) (k0_pay3 x3 x2 x1) (k0_pay4 x3 x2 x1) (k0_pay5 (F := F)) := by
  unfold out0_6
  rw [pay15_eq, pay16_eq, pay17_eq, pay18_eq]
  refine canon_full _ ?_ _ _
  decide

theorem out7_eq : out0_7 x0 x1 x2 x3 = k0_pay13 (k0_pay3 x3 x2 x1) (k0_pay4 x3 x2 x1) (k0_pay5 (F := F)) := by
  unfold out0_7
  rw [pay16_eq, pay17_eq, pay18_eq]
  refine canon_full _ ?_ _ _
  decide

theorem out8_eq : out0_8 x0 x1 x2 x3
    = k0_pay12 (k0_pay1 x0) (k0_pay2 x3 x2 x1) (k0_pay3 x3 x2 x1) (k0_pay4 x3 x2 x1) (k0_pay5 (F := F)) := by
  unfold out0_8
  rw [pay14_eq, pay15_eq, pay16_eq, pay17_eq, pay18_eq]
  refine canon_full _ ?_ _ _
  decide

end Arrays

/-! ## Over the extended reals -/

variable (m : (ℓ : Loc nD τ sig) → Buf (Elt Ideal) ℓ)

/-- The arguments. -/
abbrev A0 (c : Dev nD) : Vec Ideal S2x1024x16384 .fp8e4m3 := m ((c : Thread nD τ).loc main_arg0)
abbrev A1 (c : Dev nD) : Vec Ideal S2x1024 .f32 := m ((c : Thread nD τ).loc main_arg1)
abbrev A2 (c : Dev nD) : Vec Ideal S16384x128 .bf16 := m ((c : Thread nD τ).loc main_arg2)
abbrev A3 (c : Dev nD) : Vec Ideal S2x1024x8 .i32 := m ((c : Thread nD τ).loc main_arg3)

/-- The logits, from what the blocks hold. -/
theorem z_congr (x1 : Vec Ideal S2048x1 .f32) (x2 : Vec Ideal S16384x128 .bf16) (x3 : Vec Ideal S2048x16384 .fp8e4m3)
    (a0 : Vec Ideal S2x1024x16384 .fp8e4m3) (a1 : Vec Ideal S2x1024 .f32) (a2 : Vec Ideal S16384x128 .bf16)
    (h1 : ∀ n u, x1 (ix2 n u) = a1 (ix2 (bOf n) (sOf n))) (h2 : ∀ k e, x2 (ix2 k e) = a2 (ix2 k e))
    (h3 : ∀ n k, x3 (ix2 n k) = a0 (ix3 (bOf n) (sOf n) k)) (n : Fin 2048) : z x1 x2 x3 n = logit a0 a1 a2 n := by
  funext e
  unfold z logit
  simp only [h1, h2, h3]

theorem z_eq (c : Dev nD) (n : Fin 2048) :
    z (iblk m c 1 pt0) (iblk m c 2 pt0) (iblk m c 3 pt0) n = logit (A0 m c) (A1 m c) (A2 m c) n :=
  z_congr _ _ _ _ _ _ (scales_apply m c) (weights_apply m c) (tokens_apply m c) n

/-- A sum over the choices: over the batches, the tokens and each token's eight. -/
theorem sum_choices (g : Fin 16384 → EReal) : ∑ n, g n = ∑ b : Fin 2, ∑ s : Fin 1024, ∑ j : Fin 8,
    g ⟨b.val * 8192 + (s.val * 8 + j.val), by omega⟩ := by
  rw [sum_blocks 2 8192 g]
  exact Finset.sum_congr rfl fun b _ => sum_blocks 1024 8 fun i => g ⟨b.val * 8192 + i.val, by omega⟩

/-- The shares of the experts. -/
theorem f_eq (c : Dev nD) (e : Fin 128) : f (iblk m c 0 pt0) e = share (A3 m c) e := by
  have h (x0 : Vec Ideal S16384x1 .i32) : f x0 e = Ideal.div (∑ n : Fin 16384, same (x0 (ix2 n 0)) (BitVec.ofNat 32 e.val)) (Ideal.ofBits .f32 0x46800000#32) := by
    unfold f
    pointwise [k0_pay1]
    rw [count_eq]
  rw [h, sum_choices]
  unfold share
  refine congrArg (Ideal.div · _) (Finset.sum_congr rfl fun b _ => Finset.sum_congr rfl fun s _ => Finset.sum_congr rfl fun j _ => ?_)
  refine congrArg (fun w => same w (BitVec.ofNat 32 e.val)) ((ids_apply m c _ 0).trans ?_)
  refine congrArg (m ((c : Thread nD τ).loc main_arg3)) (funext fun a => Fin.ext ?_)
  match a with
  | ⟨0, _⟩ => show (b.val * 8192 + (s.val * 8 + j.val)) / 8192 = b.val; omega
  | ⟨1, _⟩ => show (b.val * 8192 + (s.val * 8 + j.val)) / 8 % 1024 = s.val; omega
  | ⟨2, _⟩ => show (b.val * 8192 + (s.val * 8 + j.val)) % 8 = j.val; omega

theorem aux_value (c : Dev nD) : (dats m 0 c).arrAt 4 cfg0.N = specAux (A0 m c) (A1 m c) (A2 m c) (A3 m c) := by
  rw [arr4, out4_eq]
  funext i
  rw [eq_ix2 (n0 := 2) (n1 := 1024) i]
  refine (aux_eq _ _ _ _ (i 0) (i 1)).trans ?_
  simp only [z_eq, f_eq]
  rfl

theorem zt_value (c : Dev nD) : (dats m 0 c).arrAt 5 cfg0.N = specZt (A0 m c) (A1 m c) (A2 m c) := by
  rw [arr5, out5_eq]
  funext i
  rw [eq_ix2 (n0 := 2) (n1 := 1024) i]
  refine (zt_eq _ _ _ (i 0) (i 1)).trans ?_
  simp only [z_eq]
  rfl

theorem mean_value (c : Dev nD) : (dats m 0 c).arrAt 6 cfg0.N = specMean (A0 m c) (A1 m c) (A2 m c) := by
  rw [arr6, out6_eq]
  funext i
  rw [eq_ix2 (n0 := 1) (n1 := 128) i]
  refine (mean_eq _ _ _ (i 0) (i 1)).trans ?_
  simp only [z_eq]
  rfl

theorem lse_value (c : Dev nD) : (dats m 0 c).arrAt 7 cfg0.N = specLse (A0 m c) (A1 m c) (A2 m c) := by
  rw [arr7, out7_eq]
  funext i
  rw [eq_ix2 (n0 := 2) (n1 := 1024) i]
  refine (lse2_eq _ _ _ (i 0) (i 1)).trans ?_
  simp only [z_eq]
  rfl

theorem dl_at (c : Dev nD) (n : Fin 2048) (e : Fin 128) :
    (dats m 0 c).arrAt 8 cfg0.N (ix2 n e : S2048x128.Idx) = specDl (A0 m c) (A1 m c) (A2 m c) (A3 m c) (ix2 n e) := by
  rw [arr8, out8_eq]
  refine (dl_eq _ _ _ _ n e).trans ?_
  simp only [z_eq, f_eq]
  unfold specDl
  rfl

theorem dl_value (c : Dev nD) : (dats m 0 c).arrAt 8 cfg0.N = specDl (A0 m c) (A1 m c) (A2 m c) (A3 m c) := by
  funext i
  rw [eq_ix2 (n0 := 2048) (n1 := 128) i]
  exact dl_at m c (i 0) (i 1)

/-- Every run ends with the five results at their values, and with the arguments unchanged. -/
theorem run (ρ : Dev nD → PrngReg) :
    θ_run (defs (F := Ideal)) (onTc (τ := τ) (main (F := Ideal))) ⟨m, fun _ => 0, ρ⟩ (fun r => ∀ c : Dev nD,
          r.2.mem ((c.tc : Thread nD τ).loc main_v3_0) = specAux (A0 m c) (A1 m c) (A2 m c) (A3 m c)
          ∧ r.2.mem ((c.tc : Thread nD τ).loc main_v3_1) = specZt (A0 m c) (A1 m c) (A2 m c)
          ∧ r.2.mem ((c.tc : Thread nD τ).loc main_v3_2) = specMean (A0 m c) (A1 m c) (A2 m c)
          ∧ r.2.mem ((c.tc : Thread nD τ).loc main_v3_3) = specLse (A0 m c) (A1 m c) (A2 m c)
          ∧ r.2.mem ((c.tc : Thread nD τ).loc main_v3_4) = specDl (A0 m c) (A1 m c) (A2 m c) (A3 m c)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)) :=
  (θ_run defs _ _).mono (fun _ h c => ⟨((h c).1 4).trans (aux_value m c), ((h c).1 5).trans (zt_value m c),
    ((h c).1 6).trans (mean_value m c), ((h c).1 7).trans (lse_value m c), ((h c).1 8).trans (dl_value m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c)⟩) (run_main m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Kernel and reference, over the extended reals, end with the same five results: both are the functions of the arguments
    that Proof/Spec.lean states. -/
theorem algebraic : Cert.algebraic_KernelIdeal_ReferenceIdeal (hKernelIdeal := Cert.KernelIdeal.Gen.facts)
    (hReferenceIdeal := Cert.ReferenceIdeal.Gen.facts) := by
  intro m g m' g' _ hm
  have hR := Cert.ReferenceIdeal.Hand.run m' g'
  refine ⟨_, _, _, _, _, Cert.KernelIdeal.Hand.run m g, (θ_run _ _ _).mono (fun r h c => ?_) hR⟩
  obtain ⟨e0, e1, e2, e3⟩ := hm c
  have f0 : Cert.ReferenceIdeal.Hand.A0 m' c = Cert.KernelIdeal.Hand.A0 m c := e0
  have f1 : Cert.ReferenceIdeal.Hand.A1 m' c = Cert.KernelIdeal.Hand.A1 m c := e1
  have f2 : Cert.ReferenceIdeal.Hand.A2 m' c = Cert.KernelIdeal.Hand.A2 m c := e2
  have f3 : Cert.ReferenceIdeal.Hand.A3 m' c = Cert.KernelIdeal.Hand.A3 m c := e3
  have hc := h c
  rw [f0, f1, f2, f3] at hc
  exact hc

theorem claim : Cert.Claim := ⟨Cert.Kernel.Gen.facts, Cert.KernelIdeal.Gen.facts, Cert.ReferenceIdeal.Gen.facts,
  fun m ρ _ => Cert.Kernel.Hand.frame (F := Bits) m ρ,
  fun m ρ _ => Cert.KernelIdeal.Hand.frame (F := Ideal) m ρ,
  fun m ρ _ => Cert.ReferenceIdeal.Gen.frame (F := Ideal) m ρ,
  trivial,
  algebraic⟩

end Cert.Proof

end
